-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v44)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v44) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v5) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)
      ∧ m' ((c.tc : Thread Cert.ScatterRefIdeal.nD Cert.ScatterRefIdeal.τ).loc Cert.ScatterRefIdeal.main_arg2) = m ((c.tc : Thread Cert.ScatterIdeal.nD Cert.ScatterIdeal.τ).loc Cert.ScatterIdeal.main_arg2)
      ∧ m' ((c.tc : Thread Cert.ScatterRefIdeal.nD Cert.ScatterRefIdeal.τ).loc Cert.ScatterRefIdeal.main_arg3) = m ((c.tc : Thread Cert.ScatterIdeal.nD Cert.ScatterIdeal.τ).loc Cert.ScatterIdeal.main_arg3)
      ∧ m' ((c.tc : Thread Cert.ScatterRefIdeal.nD Cert.ScatterRefIdeal.τ).loc Cert.ScatterRefIdeal.main_arg4) = m ((c.tc : Thread Cert.ScatterIdeal.nD Cert.ScatterIdeal.τ).loc Cert.ScatterIdeal.main_arg4)) →
    ∃ (v0 : (c : Dev Cert.ScatterIdeal.nD) → Buf (Elt Ideal) ((c.tc : Thread Cert.ScatterIdeal.nD Cert.ScatterIdeal.τ).loc Cert.ScatterIdeal.main_v1)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v19) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1)
          ∧ r.2.mem ((c.tc : Thread Cert.ScatterRefIdeal.nD Cert.ScatterRefIdeal.τ).loc Cert.ScatterRefIdeal.main_arg2) = m' ((c.tc : Thread Cert.ScatterRefIdeal.nD Cert.ScatterRefIdeal.τ).loc Cert.ScatterRefIdeal.main_arg2)
          ∧ r.2.mem ((c.tc : Thread Cert.ScatterRefIdeal.nD Cert.ScatterRefIdeal.τ).loc Cert.ScatterRefIdeal.main_arg3) = m' ((c.tc : Thread Cert.ScatterRefIdeal.nD Cert.ScatterRefIdeal.τ).loc Cert.ScatterRefIdeal.main_arg3)
          ∧ r.2.mem ((c.tc : Thread Cert.ScatterRefIdeal.nD Cert.ScatterRefIdeal.τ).loc Cert.ScatterRefIdeal.main_arg4) = m' ((c.tc : Thread Cert.ScatterRefIdeal.nD Cert.ScatterRefIdeal.τ).loc Cert.ScatterRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v60_0)) (v1 : (c : Dev Cert.InProjIdeal.nD) → Buf (Elt Ideal) ((c.tc : Thread Cert.InProjIdeal.nD Cert.InProjIdeal.τ).loc Cert.InProjIdeal.main_v60_3)) (v2 : (c : Dev Cert.InProjIdeal.nD) → Buf (Elt Ideal) ((c.tc : Thread Cert.InProjIdeal.nD Cert.InProjIdeal.τ).loc Cert.InProjIdeal.main_v60_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v60_0) = v0 c
          ∧ r.2.mem ((c.tc : Thread Cert.InProjIdeal.nD Cert.InProjIdeal.τ).loc Cert.InProjIdeal.main_v60_3) = v1 c
          ∧ r.2.mem ((c.tc : Thread Cert.InProjIdeal.nD Cert.InProjIdeal.τ).loc Cert.InProjIdeal.main_v60_4) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_v25) = v1 c
          ∧ r.2.mem ((c.tc : Thread Cert.InProjRefIdeal.nD Cert.InProjRefIdeal.τ).loc Cert.InProjRefIdeal.main_v33) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hScatter : Cert.Scatter.Facts) (hScatterIdeal : Cert.ScatterIdeal.Facts) (hScatterRefIdeal : Cert.ScatterRefIdeal.Facts) (hInProj : Cert.InProj.Facts) (hInProjIdeal : Cert.InProjIdeal.Facts) (hInProjRefIdeal : Cert.InProjRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal)
    ∧ preserves_Scatter_ScatterIdeal
    ∧ algebraic_ScatterIdeal_ScatterRefIdeal (hScatterIdeal := hScatterIdeal) (hScatterRefIdeal := hScatterRefIdeal)
    ∧ preserves_InProj_InProjIdeal
    ∧ algebraic_InProjIdeal_InProjRefIdeal (hInProjIdeal := hInProjIdeal) (hInProjRefIdeal := hInProjRefIdeal)
-- ==== Pre_finite_scores.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x2048x8x64 .f32) (main_arg1 : FVec F S8x2048x2x64 .f32) (main_arg2 : FVec F S8x2048x2x64 .f32) (main_arg3 : FVec F S8x256x2x64 .f32) (main_arg4 : FVec F S8x256x2x64 .f32) (main_arg5 : FVec F S8 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S8x256x2x64 .f32 := Host.absf main_arg3
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Attn.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S8x2048x2x4x64 : Shape := ⟨5, ![8, 2048, 2, 4, 64]⟩
abbrev S8x2048x4x2x64 : Shape := ⟨5, ![8, 2048, 4, 2, 64]⟩
abbrev S8x2048x512 : Shape := ⟨3, ![8, 2048, 512]⟩
abbrev S_ : Shape := ⟨0, ![]⟩
abbrev S8x2048x128 : Shape := ⟨3, ![8, 2048, 128]⟩
abbrev S8x256x128 : Shape := ⟨3, ![8, 256, 128]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S1x128x384 : Shape := ⟨3, ![1, 128, 384]⟩
abbrev S3x128x384 : Shape := ⟨3, ![3, 128, 384]⟩
abbrev S1x2048x512 : Shape := ⟨3, ![1, 2048, 512]⟩
abbrev S1x2048x128 : Shape := ⟨3, ![1, 2048, 128]⟩
abbrev S1x256x128 : Shape := ⟨3, ![1, 256, 128]⟩
abbrev S2304x128 : Shape := ⟨2, ![2304, 128]⟩
abbrev S128x128 : Shape := ⟨2, ![128, 128]⟩
abbrev S2048x128 : Shape := ⟨2, ![2048, 128]⟩
abbrev S256x128 : Shape := ⟨2, ![256, 128]⟩
abbrev S384x128 : Shape := ⟨2, ![384, 128]⟩
abbrev S1x128x128 : Shape := ⟨3, ![1, 128, 128]⟩
abbrev S128x256 : Shape := ⟨2, ![128, 256]⟩
abbrev S1 : Shape := ⟨1, ![1]⟩

abbrev nBuf : Space → Nat
  | .hbm => 63
  | .vmem => 16
  | .smem => 1
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S8x2048x2x4x64, .f32⟩
  | .hbm, ⟨7, _⟩ => ⟨S8x2048x4x2x64, .f32⟩
  | .hbm, ⟨8, _⟩ => ⟨S8x2048x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S_, .f32⟩
  | .hbm, ⟨17, _⟩ => ⟨S8x2048x512, .f32⟩
  | .hbm, ⟨18, _⟩ => ⟨S8x2048x512, .f32⟩
  | .hbm, ⟨19, _⟩ => ⟨S8x2048x512, .bf16⟩
  | .hbm, ⟨20, _⟩ => ⟨S8x2048x128, .f32⟩
  | .hbm, ⟨21, _⟩ => ⟨S8x2048x128, .bf16⟩
  | .hbm, ⟨22, _⟩ => ⟨S8x2048x128, .f32⟩
  | .hbm, ⟨23, _⟩ => ⟨S8x2048x128, .bf16⟩
  | .hbm, ⟨24, _⟩ => ⟨S8x256x128, .f32⟩
  | .hbm, ⟨25, _⟩ => ⟨S8x256x128, .bf16⟩
  | .hbm, ⟨26, _⟩ => ⟨S8x256x128, .f32⟩
  | .hbm, ⟨27, _⟩ => ⟨S8x256x128, .bf16⟩
  | .hbm, ⟨28, _⟩ => ⟨S128, .i32⟩
  | .hbm, ⟨29, _⟩ => ⟨S128x1, .i32⟩
  | .hbm, ⟨30, _⟩ => ⟨S384, .i32⟩
  | .hbm, ⟨31, _⟩ => ⟨S1x384, .i32⟩
  | .hbm, ⟨32, _⟩ => ⟨S_, .i32⟩
  | .hbm, ⟨33, _⟩ => ⟨S1x384, .i32⟩
  | .hbm, ⟨34, _⟩ => ⟨S1x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i1⟩
  | .hbm, ⟨42, _⟩ => ⟨S_, .i32⟩
  | .hbm, ⟨43, _⟩ => ⟨S1x384, .i32⟩
  | .hbm, ⟨44, _⟩ => ⟨S1x384, .i1⟩
  | .hbm, ⟨45, _⟩ => ⟨S128x384, .i1⟩
  | .hbm, ⟨46, _⟩ => ⟨S128x384, .i1⟩
  | .hbm, ⟨47, _⟩ => ⟨S_, .i32⟩
  | .hbm, ⟨48, _⟩ => ⟨S1x384, .i32⟩
  | .hbm, ⟨49, _⟩ => ⟨S1x384, .i1⟩
  | .hbm, ⟨50, _⟩ => ⟨S128x384, .i1⟩
  | .hbm, ⟨51, _⟩ => ⟨S128x384, .i1⟩
  | .hbm, ⟨52, _⟩ => ⟨S1x128x384, .i1⟩
  | .hbm, ⟨53, _⟩ => ⟨S1x128x384, .i1⟩
  | .hbm, ⟨54, _⟩ => ⟨S1x128x384, .i1⟩
  | .hbm, ⟨55, _⟩ => ⟨S3x128x384, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S3x128x384, .f32⟩
  | .hbm, ⟨60, _⟩ => ⟨S3x128x384, .f32⟩
  | .hbm, ⟨61, _⟩ => ⟨S3x128x384, .f32⟩
  | .hbm, ⟨62, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S3x128x384, .f32⟩
  | .local _ .vmem, ⟨11, _⟩ => ⟨S1x2048x512, .bf16⟩
  | .local _ .vmem, ⟨12, _⟩ => ⟨S1x2048x512, .bf16⟩
  | .local _ .vmem, ⟨13, _⟩ => ⟨S2304x128, .bf16⟩
  | .local _ .vmem, ⟨14, _⟩ => ⟨S2304x128, .bf16⟩
  | .local _ .vmem, ⟨15, _⟩ => ⟨S2304x128, .bf16⟩
  | .local _ .smem, ⟨0, _⟩ => ⟨S8, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v43 : Ref sig .tc := ⟨.hbm, 61, rfl⟩
abbrev main_v44 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v59 : BitVec 32 := Scalar.addi c0_i32 c2_i32
  let c1_i32 : BitVec 32 := 1#32
  ⟨c0_i32, v59, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  v61
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  let v62 : BitVec 32 := v61
  let v63 : Index := Scalar.indexCast v62
  let c0_36 : Index := 0#32
  ![v63.toNat, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c0_i32_37 : BitVec 32 := 0#32
  let v65 : BitVec 1 := Scalar.cmpi .eq v60 c0_i32_37
  let c0_i32_40 : BitVec 32 := 0#32
  let c15_i32 : BitVec 32 := 15#32
  let v66 : BitVec 1 := Scalar.cmpi .eq v60 c15_i32
  let c2_i32_38 : BitVec 32 := 2#32
  let c1_i32_39 : BitVec 32 := 1#32
  let v67 : BitVec 32 := Scalar.select v66 c2_i32_38 c1_i32_39
  let v68 : BitVec 32 := Scalar.select v65 c0_i32_40 v67
  let v69 : Index := Scalar.indexCast v68
  let c0_41 : Index := 0#32
  let c0_42 : Index := 0#32
  ![v69.toNat, 0, 0]
def k0_off3 (k0_t1 : Fin k0_t1_loop.trips) : Fin 3 → Nat :=
  let c0_43 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  let v62 : BitVec 32 := v61
  let v72 : Index := Scalar.indexCast v62
  let c0_44 : Index := 0#32
  ![0, v72.toNat, 0]
def k0_off4 (k0_t1 : Fin k0_t1_loop.trips) : Fin 3 → Nat :=
  let c0_49 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  let v62 : BitVec 32 := v61
  let v83 : Index := Scalar.indexCast v62
  let c128_50 : Index := 128#32
  ![0, v83.toNat, 128]
def k0_off5 (k0_t1 : Fin k0_t1_loop.trips) : Fin 3 → Nat :=
  let c0_55 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  let v62 : BitVec 32 := v61
  let v94 : Index := Scalar.indexCast v62
  let c256 : Index := 256#32
  ![0, v94.toNat, 256]
def k0_off6 (k0_t1 : Fin k0_t1_loop.trips) : Fin 3 → Nat :=
  let c0_60 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c128_i32 : BitVec 32 := 128#32
  let v61 : BitVec 32 := Scalar.muli v60 c128_i32
  let v62 : BitVec 32 := v61
  let v105 : Index := Scalar.indexCast v62
  let c384 : Index := 384#32
  ![0, v105.toNat, 384]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c0_i32_65 : BitVec 32 := 0#32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  v118
def k0_off7 (k0_t1 : Fin k0_t1_loop.trips) (c0_i32_65 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  let v119 : BitVec 32 := v118
  let v120 : Index := Scalar.indexCast v119
  let c0_68 : Index := 0#32
  ![v120.toNat, 0]
def k0_off8 (k0_t1 : Fin k0_t1_loop.trips) (c0_i32_65 : BitVec 32) : Fin 3 → Nat :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c0_i32_69 : BitVec 32 := 0#32
  let v122 : BitVec 1 := Scalar.cmpi .eq v117 c0_i32_69
  let c0_i32_73 : BitVec 32 := 0#32
  let c15_i32_70 : BitVec 32 := 15#32
  let v123 : BitVec 1 := Scalar.cmpi .eq v117 c15_i32_70
  let c2_i32_71 : BitVec 32 := 2#32
  let c1_i32_72 : BitVec 32 := 1#32
  let v124 : BitVec 32 := Scalar.select v123 c2_i32_71 c1_i32_72
  let v125 : BitVec 32 := Scalar.select v122 c0_i32_73 v124
  let v126 : Index := Scalar.indexCast v125
  let c0_74 : Index := 0#32
  let c0_75 : Index := 0#32
  ![v126.toNat, 0, 0]
def k0_off9 (k0_t1 : Fin k0_t1_loop.trips) (c0_i32_65 : BitVec 32) : Fin 3 → Nat :=
  let c0_76 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  let v119 : BitVec 32 := v118
  let v129 : Index := Scalar.indexCast v119
  let c0_77 : Index := 0#32
  ![0, v129.toNat, 0]
def k0_off10 (k0_t1 : Fin k0_t1_loop.trips) (c0_i32_65 : BitVec 32) : Fin 3 → Nat :=
  let c0_82 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  let v119 : BitVec 32 := v118
  let v140 : Index := Scalar.indexCast v119
  let c128_83 : Index := 128#32
  ![0, v140.toNat, 128]
def k0_off11 (k0_t1 : Fin k0_t1_loop.trips) (c0_i32_65 : BitVec 32) : Fin 3 → Nat :=
  let c0_88 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  let v119 : BitVec 32 := v118
  let v151 : Index := Scalar.indexCast v119
  let c256_89 : Index := 256#32
  ![0, v151.toNat, 256]
def k0_off12 (k0_t1 : Fin k0_t1_loop.trips) (c0_i32_65 : BitVec 32) : Fin 3 → Nat :=
  let c0_94 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v116 : BitVec 32 := Scalar.addi v60 c0_i32_65
  let c1_i32_66 : BitVec 32 := 1#32
  let v117 : BitVec 32 := Scalar.addi v116 c1_i32_66
  let c128_i32_67 : BitVec 32 := 128#32
  let v118 : BitVec 32 := Scalar.muli v117 c128_i32_67
  let v119 : BitVec 32 := v118
  let v162 : Index := Scalar.indexCast v119
  let c384_95 : Index := 384#32
  ![0, v162.toNat, 384]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c0_i32_100 : BitVec 32 := 0#32
  let v173 : BitVec 32 := Scalar.addi v60 c0_i32_100
  let c128_i32_101 : BitVec 32 := 128#32
  let v174 : BitVec 32 := Scalar.muli v173 c128_i32_101
  v174
def k0_off13 (k0_t1 : Fin k0_t1_loop.trips) (c0_i32_100 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v173 : BitVec 32 := Scalar.addi v60 c0_i32_100
  let c128_i32_101 : BitVec 32 := 128#32
  let v174 : BitVec 32 := Scalar.muli v173 c128_i32_101
  let v175 : BitVec 32 := v174
  let v176 : Index := Scalar.indexCast v175
  let c0_102 : Index := 0#32
  ![v176.toNat, 0]
def k0_off14 (k0_t1 : Fin k0_t1_loop.trips) (c0_i32_100 : BitVec 32) : Fin 3 → Nat :=
  let c0_145 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v173 : BitVec 32 := Scalar.addi v60 c0_i32_100
  let c128_i32_101 : BitVec 32 := 128#32
  let v174 : BitVec 32 := Scalar.muli v173 c128_i32_101
  let v175 : BitVec 32 := v174
  let v390 : Index := Scalar.indexCast v175
  let c0_146 : Index := 0#32
  ![0, v390.toNat, 0]
def k0_off15 (k0_t1 : Fin k0_t1_loop.trips) (c0_i32_100 : BitVec 32) : Fin 3 → Nat :=
  let c0_147 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v173 : BitVec 32 := Scalar.addi v60 c0_i32_100
  let c128_i32_101 : BitVec 32 := 128#32
  let v174 : BitVec 32 := Scalar.muli v173 c128_i32_101
  let v175 : BitVec 32 := v174
  let v396 : Index := Scalar.indexCast v175
  let c128_148 : Index := 128#32
  ![0, v396.toNat, 128]
def k0_off16 (k0_t1 : Fin k0_t1_loop.trips) (c0_i32_100 : BitVec 32) : Fin 3 → Nat :=
  let c0_149 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v173 : BitVec 32 := Scalar.addi v60 c0_i32_100
  let c128_i32_101 : BitVec 32 := 128#32
  let v174 : BitVec 32 := Scalar.muli v173 c128_i32_101
  let v175 : BitVec 32 := v174
  let v402 : Index := Scalar.indexCast v175
  let c256_150 : Index := 256#32
  ![0, v402.toNat, 256]
def k0_off17 (k0_t1 : Fin k0_t1_loop.trips) (c0_i32_100 : BitVec 32) : Fin 3 → Nat :=
  let c0_151 : Index := 0#32
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let v173 : BitVec 32 := Scalar.addi v60 c0_i32_100
  let c128_i32_101 : BitVec 32 := 128#32
  let v174 : BitVec 32 := Scalar.muli v173 c128_i32_101
  let v175 : BitVec 32 := v174
  let v408 : Index := Scalar.indexCast v175
  let c384_152 : Index := 384#32
  ![0, v408.toNat, 384]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c1_i32_153 : BitVec 32 := 1#32
  let v412 : BitVec 32 := Scalar.addi v60 c1_i32_153
  let c1_i32_154 : BitVec 32 := 1#32
  let v413 : BitVec 32 := Scalar.addi v412 c1_i32_154
  let c128_i32_155 : BitVec 32 := 128#32
  let v414 : BitVec 32 := Scalar.muli v413 c128_i32_155
  v414
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c1_i32_188 : BitVec 32 := 1#32
  let v469 : BitVec 32 := Scalar.addi v60 c1_i32_188
  let c128_i32_189 : BitVec 32 := 128#32
  let v470 : BitVec 32 := Scalar.muli v469 c128_i32_189
  v470
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c2_i32_248 : BitVec 32 := 2#32
  let v708 : BitVec 32 := Scalar.addi v60 c2_i32_248
  let c1_i32_249 : BitVec 32 := 1#32
  let v709 : BitVec 32 := Scalar.addi v708 c1_i32_249
  let c128_i32_250 : BitVec 32 := 128#32
  let v710 : BitVec 32 := Scalar.muli v709 c128_i32_250
  v710
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c2_i32_283 : BitVec 32 := 2#32
  let v765 : BitVec 32 := Scalar.addi v60 c2_i32_283
  let c128_i32_284 : BitVec 32 := 128#32
  let v766 : BitVec 32 := Scalar.muli v765 c128_i32_284
  v766
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c3_i32 : BitVec 32 := 3#32
  let v1004 : BitVec 32 := Scalar.addi v60 c3_i32
  let c1_i32_343 : BitVec 32 := 1#32
  let v1005 : BitVec 32 := Scalar.addi v1004 c1_i32_343
  let c128_i32_344 : BitVec 32 := 128#32
  let v1006 : BitVec 32 := Scalar.muli v1005 c128_i32_344
  v1006
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c3_i32_377 : BitVec 32 := 3#32
  let v1061 : BitVec 32 := Scalar.addi v60 c3_i32_377
  let c128_i32_378 : BitVec 32 := 128#32
  let v1062 : BitVec 32 := Scalar.muli v1061 c128_i32_378
  v1062
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c4_i32 : BitVec 32 := 4#32
  let v1300 : BitVec 32 := Scalar.addi v60 c4_i32
  let c1_i32_437 : BitVec 32 := 1#32
  let v1301 : BitVec 32 := Scalar.addi v1300 c1_i32_437
  let c128_i32_438 : BitVec 32 := 128#32
  let v1302 : BitVec 32 := Scalar.muli v1301 c128_i32_438
  v1302
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c4_i32_471 : BitVec 32 := 4#32
  let v1357 : BitVec 32 := Scalar.addi v60 c4_i32_471
  let c128_i32_472 : BitVec 32 := 128#32
  let v1358 : BitVec 32 := Scalar.muli v1357 c128_i32_472
  v1358
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c5_i32 : BitVec 32 := 5#32
  let v1596 : BitVec 32 := Scalar.addi v60 c5_i32
  let c1_i32_531 : BitVec 32 := 1#32
  let v1597 : BitVec 32 := Scalar.addi v1596 c1_i32_531
  let c128_i32_532 : BitVec 32 := 128#32
  let v1598 : BitVec 32 := Scalar.muli v1597 c128_i32_532
  v1598
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c5_i32_565 : BitVec 32 := 5#32
  let v1653 : BitVec 32 := Scalar.addi v60 c5_i32_565
  let c128_i32_566 : BitVec 32 := 128#32
  let v1654 : BitVec 32 := Scalar.muli v1653 c128_i32_566
  v1654
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c6_i32 : BitVec 32 := 6#32
  let v1892 : BitVec 32 := Scalar.addi v60 c6_i32
  let c1_i32_625 : BitVec 32 := 1#32
  let v1893 : BitVec 32 := Scalar.addi v1892 c1_i32_625
  let c128_i32_626 : BitVec 32 := 128#32
  let v1894 : BitVec 32 := Scalar.muli v1893 c128_i32_626
  v1894
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c6_i32_659 : BitVec 32 := 6#32
  let v1949 : BitVec 32 := Scalar.addi v60 c6_i32_659
  let c128_i32_660 : BitVec 32 := 128#32
  let v1950 : BitVec 32 := Scalar.muli v1949 c128_i32_660
  v1950
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v60 : BitVec 32 := Scalar.muli arg12 c8_i32
  let c7_i32 : BitVec 32 := 7#32
  let v2188 : BitVec 32 := Scalar.addi v60 c7_i32
  let c128_i32_719 : BitVec 32 := 128#32
  let v2189 : BitVec 32 := Scalar.muli v2188 c128_i32_719
  v2189
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S8x16x128x2x4x64 : Shape := ⟨6, ![8, 16, 128, 2, 4, 64]⟩
abbrev S_ : Shape := ⟨0, ![]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S8x16x2x384x128x4 : Shape := ⟨6, ![8, 16, 2, 384, 128, 4]⟩
abbrev S8x16x2x4x128x384 : Shape := ⟨6, ![8, 16, 2, 4, 128, 384]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S2x4 : Shape := ⟨2, ![2, 4]⟩
abbrev S1x1x2x4x1x1 : Shape := ⟨6, ![1, 1, 2, 4, 1, 1]⟩
abbrev S8x16x2x4x128x1 : Shape := ⟨6, ![8, 16, 2, 4, 128, 1]⟩
abbrev S8x16x2x4x128x641 : Shape := ⟨6, ![8, 16, 2, 4, 128, 641]⟩
abbrev S8x16x2x4x128 : Shape := ⟨5, ![8, 16, 2, 4, 128]⟩
abbrev S8x16x2x64x4x128 : Shape := ⟨6, ![8, 16, 2, 64, 4, 128]⟩
abbrev S8x2x64x16x4x128 : Shape := ⟨6, ![8, 2, 64, 16, 4, 128]⟩
abbrev S8x16x128x4x2x64 : Shape := ⟨6, ![8, 16, 128, 4, 2, 64]⟩
abbrev S8x2048x512 : Shape := ⟨3, ![8, 2048, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S8x16x128x2x4x64, .f32⟩
  | .hbm, ⟨7, _⟩ => ⟨S_, .i32⟩
  | .hbm, ⟨8, _⟩ => ⟨S_, .f32⟩
  | .hbm, ⟨9, _⟩ => ⟨S8x2304x2x64, .f32⟩
  | .hbm, ⟨10, _⟩ => ⟨S8x18x128x2x64, .f32⟩
  | .hbm, ⟨11, _⟩ => ⟨S8x16x128x2x64, .f32⟩
  | .hbm, ⟨12, _⟩ => ⟨S8x16x128x2x64, .f32⟩
  | .hbm, ⟨13, _⟩ => ⟨S8x16x128x2x64, .f32⟩
  | .hbm, ⟨14, _⟩ => ⟨S8x16x384x2x64, .f32⟩
  | .hbm, ⟨15, _⟩ => ⟨S_, .i32⟩
  | .hbm, ⟨16, _⟩ => ⟨S_, .f32⟩
  | .hbm, ⟨17, _⟩ => ⟨S8x2304x2x64, .f32⟩
  | .hbm, ⟨18, _⟩ => ⟨S8x18x128x2x64, .f32⟩
  | .hbm, ⟨19, _⟩ => ⟨S8x16x128x2x64, .f32⟩
  | .hbm, ⟨20, _⟩ => ⟨S8x16x128x2x64, .f32⟩
  | .hbm, ⟨21, _⟩ => ⟨S8x16x128x2x64, .f32⟩
  | .hbm, ⟨22, _⟩ => ⟨S8x16x384x2x64, .f32⟩
  | .hbm, ⟨23, _⟩ => ⟨S8x16x2x384x128x4, .f32⟩
  | .hbm, ⟨24, _⟩ => ⟨S8x16x2x4x128x384, .f32⟩
  | .hbm, ⟨25, _⟩ => ⟨S_, .f32⟩
  | .hbm, ⟨26, _⟩ => ⟨S8x16x2x4x128x384, .f32⟩
  | .hbm, ⟨27, _⟩ => ⟨S8x16x2x4x128x384, .f32⟩
  | .hbm, ⟨28, _⟩ => ⟨S384, .i32⟩
  | .hbm, ⟨29, _⟩ => ⟨S1x384, .i32⟩
  | .hbm, ⟨30, _⟩ => ⟨S_, .i32⟩
  | .hbm, ⟨31, _⟩ => ⟨S1x384, .i32⟩
  | .hbm, ⟨32, _⟩ => ⟨S1x384, .i32⟩
  | .hbm, ⟨33, _⟩ => ⟨S128, .i32⟩
  | .hbm, ⟨34, _⟩ => ⟨S128x1, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S16, .i32⟩
  | .hbm, ⟨39, _⟩ => ⟨S16x1, .i32⟩
  | .hbm, ⟨40, _⟩ => ⟨S_, .i32⟩
  | .hbm, ⟨41, _⟩ => ⟨S16x1, .i32⟩
  | .hbm, ⟨42, _⟩ => ⟨S16x1, .i32⟩
  | .hbm, ⟨43, _⟩ => ⟨S_, .i32⟩
  | .hbm, ⟨44, _⟩ => ⟨S16x1, .i32⟩
  | .hbm, ⟨45, _⟩ => ⟨S16x1, .i32⟩
  | .hbm, ⟨46, _⟩ => ⟨S384, .i32⟩
  | .hbm, ⟨47, _⟩ => ⟨S1x384, .i32⟩
  | .hbm, ⟨48, _⟩ => ⟨S16x384, .i32⟩
  | .hbm, ⟨49, _⟩ => ⟨S16x384, .i32⟩
  | .hbm, ⟨50, _⟩ => ⟨S16x384, .i32⟩
  | .hbm, ⟨51, _⟩ => ⟨S128x384, .i32⟩
  | .hbm, ⟨52, _⟩ => ⟨S_, .i32⟩
  | .hbm, ⟨53, _⟩ => ⟨S128x384, .i32⟩
  | .hbm, ⟨54, _⟩ => ⟨S128x384, .i1⟩
  | .hbm, ⟨55, _⟩ => ⟨S1x128x384, .i1⟩
  | .hbm, ⟨56, _⟩ => ⟨S_, .i32⟩
  | .hbm, ⟨57, _⟩ => ⟨S16x384, .i32⟩
  | .hbm, ⟨58, _⟩ => ⟨S16x384, .i1⟩
  | .hbm, ⟨59, _⟩ => ⟨S_, .i32⟩
  | .hbm, ⟨60, _⟩ => ⟨S16x384, .i32⟩
  | .hbm, ⟨61, _⟩ => ⟨S16x384, .i1⟩
  | .hbm, ⟨62, _⟩ => ⟨S16x384, .i1⟩
  | .hbm, ⟨63, _⟩ => ⟨S16x1x384, .i1⟩
  | .hbm, ⟨64, _⟩ => ⟨S16x128x384, .i1⟩
  | .hbm, ⟨65, _⟩ => ⟨S16x128x384, .i1⟩
  | .hbm, ⟨66, _⟩ => ⟨S16x128x384, .i1⟩
  | .hbm, ⟨67, _⟩ => ⟨S1x16x1x1x128x384, .i1⟩
  | .hbm, ⟨68, _⟩ => ⟨S_, .f32⟩
  | .hbm, ⟨69, _⟩ => ⟨S_, .f32⟩
  | .hbm, ⟨70, _⟩ => ⟨S8x16x2x4x128x384, .i1⟩
  | .hbm, ⟨71, _⟩ => ⟨S8x16x2x4x128x384, .f32⟩
  | .hbm, ⟨72, _⟩ => ⟨S8x16x2x4x128x384, .f32⟩
  | .hbm, ⟨73, _⟩ => ⟨S8x2x256x16x128x4, .f32⟩
  | .hbm, ⟨74, _⟩ => ⟨S8x16x2x4x128x256, .f32⟩
  | .hbm, ⟨75, _⟩ => ⟨S_, .f32⟩
  | .hbm, ⟨76, _⟩ => ⟨S8x16x2x4x128x256, .f32⟩
  | .hbm, ⟨77, _⟩ => ⟨S8x16x2x4x128x256, .f32⟩
  | .hbm, ⟨78, _⟩ => ⟨S2x4, .f32⟩
  | .hbm, ⟨79, _⟩ => ⟨S1x1x2x4x1x1, .f32⟩
  | .hbm, ⟨80, _⟩ => ⟨S8x16x2x4x128x1, .f32⟩
  | .hbm, ⟨81, _⟩ => ⟨S8x16x2x4x128x641, .f32⟩
  | .hbm, ⟨82, _⟩ => ⟨S_, .f32⟩
  | .hbm, ⟨83, _⟩ => ⟨S8x16x2x4x128, .f32⟩
  | .hbm, ⟨84, _⟩ => ⟨S_, .f32⟩
  | .hbm, ⟨85, _⟩ => ⟨S8x16x2x4x128, .f32⟩
  | .hbm, ⟨86, _⟩ => ⟨S8x16x2x4x128, .f32⟩
  | .hbm, ⟨87, _⟩ => ⟨S8x16x2x4x128x1, .f32⟩
  | .hbm, ⟨88, _⟩ => ⟨S8x16x2x4x128x641, .f32⟩
  | .hbm, ⟨89, _⟩ => ⟨S8x16x2x4x128x641, .f32⟩
  | .hbm, ⟨90, _⟩ => ⟨S8x16x2x4x128x641, .f32⟩
  | .hbm, ⟨91, _⟩ => ⟨S_, .f32⟩
  | .hbm, ⟨92, _⟩ => ⟨S8x16x2x4x128, .f32⟩
  | .hbm, ⟨93, _⟩ => ⟨S8x16x2x4x128x1, .f32⟩
  | .hbm, ⟨94, _⟩ => ⟨S8x16x2x4x128x641, .f32⟩
  | .hbm, ⟨95, _⟩ => ⟨S8x16x2x4x128x641, .f32⟩
  | .hbm, ⟨96, _⟩ => ⟨S8x16x2x4x128x384, .f32⟩
  | .hbm, ⟨97, _⟩ => ⟨S8x16x2x64x4x128, .f32⟩
  | .hbm, ⟨98, _⟩ => ⟨S8x16x128x2x4x64, .f32⟩
  | .hbm, ⟨99, _⟩ => ⟨S8x16x2x4x128x256, .f32⟩
  | .hbm, ⟨100, _⟩ => ⟨S8x2x64x16x4x128, .f32⟩
  | .hbm, ⟨101, _⟩ => ⟨S8x16x128x2x4x64, .f32⟩
  | .hbm, ⟨102, _⟩ => ⟨S8x16x128x2x4x64, .f32⟩
  | .hbm, ⟨103, _⟩ => ⟨S8x16x128x4x2x64, .f32⟩
  | .hbm, ⟨104, _⟩ => ⟨S8x2048x512, .f32⟩
  | .hbm, ⟨105, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Experts.lean ====
abbrev S16x2048x1024 : Shape := ⟨3, ![16, 2048, 1024]⟩
abbrev S16x1024x2048 : Shape := ⟨3, ![16, 1024, 2048]⟩
abbrev S1x2048x1024 : Shape := ⟨3, ![1, 2048, 1024]⟩
abbrev S1x1024x512 : Shape := ⟨3, ![1, 1024, 512]⟩
abbrev S1x512x1024 : Shape := ⟨3, ![1, 512, 1024]⟩
abbrev S2048x1024 : Shape := ⟨2, ![2048, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x2048x1024, .bf16⟩
  | .hbm, ⟨5, _⟩ => ⟨S16x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2048x1024, .f32⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S16x2048x1024 : Shape := ⟨3, ![16, 2048, 1024]⟩
abbrev S16x1024x2048 : Shape := ⟨3, ![16, 1024, 2048]⟩
abbrev S16x2048x2048 : Shape := ⟨3, ![16, 2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x1024, .f32⟩
  | .hbm, ⟨17, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Scatter.lean ====
abbrev S8x16x2048 : Shape := ⟨3, ![8, 16, 2048]⟩
abbrev S16x2048x1024 : Shape := ⟨3, ![16, 2048, 1024]⟩
abbrev S8x2048x1024 : Shape := ⟨3, ![8, 2048, 1024]⟩
abbrev S16x1x6144 : Shape := ⟨3, ![16, 1, 6144]⟩
abbrev S1x16x1024 : Shape := ⟨3, ![1, 16, 1024]⟩
abbrev S16x256x1024 : Shape := ⟨3, ![16, 256, 1024]⟩
abbrev S1x1024x1024 : Shape := ⟨3, ![1, 1024, 1024]⟩
abbrev S1x1x1024 : Shape := ⟨3, ![1, 1, 1024]⟩
abbrev S16x1024 : Shape := ⟨2, ![16, 1024]⟩
abbrev S256x512 : Shape := ⟨2, ![256, 512]⟩
abbrev S1x512 : Shape := ⟨2, ![1, 512]⟩
abbrev S4096x512 : Shape := ⟨2, ![4096, 512]⟩
abbrev S4096x1024 : Shape := ⟨2, ![4096, 1024]⟩
abbrev S512x1024 : Shape := ⟨2, ![512, 1024]⟩
abbrev S1x512x1024 : Shape := ⟨3, ![1, 512, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8x16x2048, .i32⟩
  | .hbm, ⟨1, _⟩ => ⟨S8x16x2048, .f32⟩
  | .hbm, ⟨2, _⟩ => ⟨S16x2048x1024, .f32⟩
  | .hbm, ⟨3, _⟩ => ⟨S8x2048x1024, .f32⟩
  | .hbm, ⟨4, _⟩ => ⟨S16x1x6144, .f32⟩
  | .hbm, ⟨5, _⟩ => ⟨S16x2048x1024, .bf16⟩
  | .hbm, ⟨6, _⟩ => ⟨S8x2048x1024, .f32⟩
  | .local _ .vmem, ⟨0, _⟩ => ⟨S1x16x1024, .i32⟩
  | .local _ .vmem, ⟨1, _⟩ => ⟨S1x16x1024, .i32⟩
  | .local _ .vmem, ⟨2, _⟩ => ⟨S1x16x1024, .f32⟩
  | .local _ .vmem, ⟨3, _⟩ => ⟨S1x16x1024, .f32⟩
  | .local _ .vmem, ⟨4, _⟩ => ⟨S16x256x1024, .bf16⟩
  | .local _ .vmem, ⟨5, _⟩ => ⟨S16x256x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | _, _ => ⟨S8x16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ScatterRefIdeal.lean ====
abbrev S8x16x2048 : Shape := ⟨3, ![8, 16, 2048]⟩
abbrev S16x2048x1024 : Shape := ⟨3, ![16, 2048, 1024]⟩
abbrev S8x2048x1024 : Shape := ⟨3, ![8, 2048, 1024]⟩
abbrev S16x1x6144 : Shape := ⟨3, ![16, 1, 6144]⟩
abbrev S16x8x256x1024 : Shape := ⟨4, ![16, 8, 256, 1024]⟩
abbrev S8x16x256x1024 : Shape := ⟨4, ![8, 16, 256, 1024]⟩
abbrev S8x1x1024 : Shape := ⟨3, ![8, 1, 1024]⟩
abbrev S_ : Shape := ⟨0, ![]⟩
abbrev S8x16x2048x1 : Shape := ⟨4, ![8, 16, 2048, 1]⟩
abbrev S1 : Shape := ⟨1, ![1]⟩
abbrev S1x1x1x1 : Shape := ⟨4, ![1, 1, 1, 1]⟩
abbrev S8x16x2048x1024 : Shape := ⟨4, ![8, 16, 2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x16x2048, .i32⟩
  | .hbm, ⟨1, _⟩ => ⟨S8x16x2048, .f32⟩
  | .hbm, ⟨2, _⟩ => ⟨S16x2048x1024, .f32⟩
  | .hbm, ⟨3, _⟩ => ⟨S8x2048x1024, .f32⟩
  | .hbm, ⟨4, _⟩ => ⟨S16x1x6144, .f32⟩
  | .hbm, ⟨5, _⟩ => ⟨S16x8x256x1024, .f32⟩
  | .hbm, ⟨6, _⟩ => ⟨S8x16x256x1024, .f32⟩
  | .hbm, ⟨7, _⟩ => ⟨S8x1x1024, .f32⟩
  | .hbm, ⟨8, _⟩ => ⟨S_, .i32⟩
  | .hbm, ⟨9, _⟩ => ⟨S8x16x2048, .i32⟩
  | .hbm, ⟨10, _⟩ => ⟨S8x16x2048, .i1⟩
  | .hbm, ⟨11, _⟩ => ⟨S_, .i32⟩
  | .hbm, ⟨12, _⟩ => ⟨S8x16x2048, .i32⟩
  | .hbm, ⟨13, _⟩ => ⟨S8x16x2048, .i1⟩
  | .hbm, ⟨14, _⟩ => ⟨S8x16x2048, .i1⟩
  | .hbm, ⟨15, _⟩ => ⟨S_, .i32⟩
  | .hbm, ⟨16, _⟩ => ⟨S_, .i32⟩
  | .hbm, ⟨17, _⟩ => ⟨S8x16x2048, .i32⟩
  | .hbm, ⟨18, _⟩ => ⟨S8x16x2048, .i32⟩
  | .hbm, ⟨19, _⟩ => ⟨S8x16x2048x1, .i32⟩
  | .hbm, ⟨20, _⟩ => ⟨S_, .i32⟩
  | .hbm, ⟨21, _⟩ => ⟨S8x16x2048x1, .i32⟩
  | .hbm, ⟨22, _⟩ => ⟨S8x16x2048x1, .i1⟩
  | .hbm, ⟨23, _⟩ => ⟨S_, .i32⟩
  | .hbm, ⟨24, _⟩ => ⟨S8x16x2048x1, .i32⟩
  | .hbm, ⟨25, _⟩ => ⟨S8x16x2048x1, .i32⟩
  | .hbm, ⟨26, _⟩ => ⟨S8x16x2048x1, .i32⟩
  | .hbm, ⟨27, _⟩ => ⟨S1, .i32⟩
  | .hbm, ⟨28, _⟩ => ⟨S_, .i32⟩
  | .hbm, ⟨29, _⟩ => ⟨S8x16x2048x1, .i32⟩
  | .hbm, ⟨30, _⟩ => ⟨S8x16x2048x1, .i1⟩
  | .hbm, ⟨31, _⟩ => ⟨S1x1x1x1, .i32⟩
  | .hbm, ⟨32, _⟩ => ⟨S8x16x2048x1, .i32⟩
  | .hbm, ⟨33, _⟩ => ⟨S8x16x2048x1, .i1⟩
  | .hbm, ⟨34, _⟩ => ⟨S8x16x2048x1, .i1⟩
  | .hbm, ⟨35, _⟩ => ⟨S_, .i1⟩
  | .hbm, ⟨36, _⟩ => ⟨S8x16x2048, .i1⟩
  | .hbm, ⟨37, _⟩ => ⟨S8x16x2048x1024, .f32⟩
  | .hbm, ⟨38, _⟩ => ⟨S8x16x2048x1024, .i1⟩
  | .hbm, ⟨39, _⟩ => ⟨S_, .f32⟩
  | .hbm, ⟨40, _⟩ => ⟨S8x16x2048x1024, .f32⟩
  | .hbm, ⟨41, _⟩ => ⟨S8x16x2048x1024, .f32⟩
  | .hbm, ⟨42, _⟩ => ⟨S8x16x2048x1, .i1⟩
  | .hbm, ⟨43, _⟩ => ⟨S8x16x2048x1, .f32⟩
  | .hbm, ⟨44, _⟩ => ⟨S8x16x2048x1024, .f32⟩
  | .hbm, ⟨45, _⟩ => ⟨S8x16x2048x1024, .f32⟩
  | .hbm, ⟨46, _⟩ => ⟨S_, .f32⟩
  | .hbm, ⟨47, _⟩ => ⟨S_, .f32⟩
  | .hbm, ⟨48, _⟩ => ⟨S8x16x2048x1024, .i1⟩
  | .hbm, ⟨49, _⟩ => ⟨S8x16x2048x1024, .f32⟩
  | .hbm, ⟨50, _⟩ => ⟨S8x16x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | _, _ => ⟨S8x16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_1 : Ref sig .tc := ⟨.hbm, 27, rfl⟩
abbrev main_call1_c_2 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]
-- ==== InProj.lean ====
abbrev S8x2048x1024 : Shape := ⟨3, ![8, 2048, 1024]⟩
abbrev S16x1x6144 : Shape := ⟨3, ![16, 1, 6144]⟩
abbrev S1024 : Shape := ⟨1, ![1024]⟩
abbrev S1024x4352 : Shape := ⟨2, ![1024, 4352]⟩
abbrev S64 : Shape := ⟨1, ![64]⟩
abbrev S16 : Shape := ⟨1, ![16]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S2048x128 : Shape := ⟨2, ![2048, 128]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S_ : Shape := ⟨0, ![]⟩
abbrev S4x1x4x1 : Shape := ⟨4, ![4, 1, 4, 1]⟩
abbrev S4x64x4x64 : Shape := ⟨4, ![4, 64, 4, 64]⟩
abbrev S256x256 : Shape := ⟨2, ![256, 256]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S1024x2048 : Shape := ⟨2, ![1024, 2048]⟩
abbrev S1024x256 : Shape := ⟨2, ![1024, 256]⟩
abbrev S8x64 : Shape := ⟨2, ![8, 64]⟩
abbrev S512 : Shape := ⟨1, ![512]⟩
abbrev S1x512 : Shape := ⟨2, ![1, 512]⟩
abbrev S8x2048x1536 : Shape := ⟨3, ![8, 2048, 1536]⟩
abbrev S8x2048x512 : Shape := ⟨3, ![8, 2048, 512]⟩
abbrev S8x2048x128 : Shape := ⟨3, ![8, 2048, 128]⟩
abbrev S8x2048x2048 : Shape := ⟨3, ![8, 2048, 2048]⟩
abbrev S1x1024x1024 : Shape := ⟨3, ![1, 1024, 1024]⟩
abbrev S1x1x1024 : Shape := ⟨3, ![1, 1, 1024]⟩
abbrev S1024x1536 : Shape := ⟨2, ![1024, 1536]⟩
abbrev S1024x512 : Shape := ⟨2, ![1024, 512]⟩
abbrev S1024x128 : Shape := ⟨2, ![1024, 128]⟩
abbrev S1x1024x1536 : Shape := ⟨3, ![1, 1024, 1536]⟩
abbrev S1x1024x512 : Shape := ⟨3, ![1, 1024, 512]⟩
abbrev S1x1024x128 : Shape := ⟨3, ![1, 1024, 128]⟩
abbrev S1x1024x2048 : Shape := ⟨3, ![1, 1024, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S1x256x1536 : Shape := ⟨3, ![1, 256, 1536]⟩
abbrev S256x512 : Shape := ⟨2, ![256, 512]⟩
abbrev S256x128 : Shape := ⟨2, ![256, 128]⟩
abbrev S1x256 : Shape := ⟨2, ![1, 256]⟩
abbrev S1x256x256 : Shape := ⟨3, ![1, 256, 256]⟩
abbrev S128x128 : Shape := ⟨2, ![128, 128]⟩
abbrev S1x256x128 : Shape := ⟨3, ![1, 256, 128]⟩
abbrev S256x2048 : Shape := ⟨2, ![256, 2048]⟩
abbrev S1x256x2048 : Shape := ⟨3, ![1, 256, 2048]⟩

abbrev nBuf : Space → Nat
  | .hbm => 76
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S16x1x6144, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S16, .f32⟩
  | .hbm, ⟨7, _⟩ => ⟨S32, .f32⟩
  | .hbm, ⟨8, _⟩ => ⟨S32x1, .f32⟩
  | .hbm, ⟨9, _⟩ => ⟨S32x64, .f32⟩
  | .hbm, ⟨10, _⟩ => ⟨S2048, .f32⟩
  | .hbm, ⟨11, _⟩ => ⟨S64, .f32⟩
  | .hbm, ⟨12, _⟩ => ⟨S1x64, .f32⟩
  | .hbm, ⟨13, _⟩ => ⟨S32x64, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32x1, .f32⟩
  | .hbm, ⟨29, _⟩ => ⟨S2048x32x1, .f32⟩
  | .hbm, ⟨30, _⟩ => ⟨S2048x32x2, .f32⟩
  | .hbm, ⟨31, _⟩ => ⟨S2048x64, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32x1, .f32⟩
  | .hbm, ⟨36, _⟩ => ⟨S2048x32x1, .f32⟩
  | .hbm, ⟨37, _⟩ => ⟨S2048x32x2, .f32⟩
  | .hbm, ⟨38, _⟩ => ⟨S2048x64, .f32⟩
  | .hbm, ⟨39, _⟩ => ⟨S2048x128, .f32⟩
  | .hbm, ⟨40, _⟩ => ⟨S2048x128, .f32⟩
  | .hbm, ⟨41, _⟩ => ⟨S4, .i32⟩
  | .hbm, ⟨42, _⟩ => ⟨S4x1, .i32⟩
  | .hbm, ⟨43, _⟩ => ⟨S4, .i32⟩
  | .hbm, ⟨44, _⟩ => ⟨S1x4, .i32⟩
  | .hbm, ⟨45, _⟩ => ⟨S4x4, .i32⟩
  | .hbm, ⟨46, _⟩ => ⟨S4x4, .i32⟩
  | .hbm, ⟨47, _⟩ => ⟨S4x4, .i1⟩
  | .hbm, ⟨48, _⟩ => ⟨S_, .f32⟩
  | .hbm, ⟨49, _⟩ => ⟨S_, .f32⟩
  | .hbm, ⟨50, _⟩ => ⟨S4x4, .f32⟩
  | .hbm, ⟨51, _⟩ => ⟨S4x4, .f32⟩
  | .hbm, ⟨52, _⟩ => ⟨S4x4, .f32⟩
  | .hbm, ⟨53, _⟩ => ⟨S4x1x4x1, .f32⟩
  | .hbm, ⟨54, _⟩ => ⟨S4x64x4x64, .f32⟩
  | .hbm, ⟨55, _⟩ => ⟨S256x256, .f32⟩
  | .hbm, ⟨56, _⟩ => ⟨S256x256, .bf16⟩
  | .hbm, ⟨57, _⟩ => ⟨S1x64, .f32⟩
  | .hbm, ⟨58, _⟩ => ⟨S2x64, .f32⟩
  | .hbm, ⟨59, _⟩ => ⟨S128, .f32⟩
  | .hbm, ⟨60, _⟩ => ⟨S1x128, .f32⟩
  | .hbm, ⟨61, _⟩ => ⟨S1x1024, .f32⟩
  | .hbm, ⟨62, _⟩ => ⟨S1024x4352, .bf16⟩
  | .hbm, ⟨63, _⟩ => ⟨S1024x2048, .bf16⟩
  | .hbm, ⟨64, _⟩ => ⟨S1024x2048, .bf16⟩
  | .hbm, ⟨65, _⟩ => ⟨S1024x256, .bf16⟩
  | .hbm, ⟨66, _⟩ => ⟨S1024x4352, .bf16⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S8x2048x1536, .bf16⟩
  | .hbm, ⟨72, _⟩ => ⟨S8x2048x512, .bf16⟩
  | .hbm, ⟨73, _⟩ => ⟨S8x2048x128, .bf16⟩
  | .hbm, ⟨74, _⟩ => ⟨S8x2048x128, .bf16⟩
  | .hbm, ⟨75, _⟩ => ⟨S8x2048x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x256, .bf16⟩
  | .local _ .vmem, ⟨10, _⟩ => ⟨S1024x2048, .bf16⟩
  | .local _ .vmem, ⟨11, _⟩ => ⟨S1x512, .f32⟩
  | .local _ .vmem, ⟨12, _⟩ => ⟨S1x128, .f32⟩
  | .local _ .vmem, ⟨13, _⟩ => ⟨S256x256, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x1024x1536, .bf16⟩
  | .local _ .vmem, ⟨19, _⟩ => ⟨S1x1024x1536, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x128, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x1024x128, .bf16⟩
  | .local _ .vmem, ⟨26, _⟩ => ⟨S1x1024x2048, .bf16⟩
  | .local _ .vmem, ⟨27, _⟩ => ⟨S1x1024x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_0 : Ref sig .tc := ⟨.hbm, 48, rfl⟩
abbrev main_cst_1 : Ref sig .tc := ⟨.hbm, 49, rfl⟩
abbrev main_call0_v0 : Ref sig .tc := ⟨.hbm, 50, rfl⟩
abbrev main_call0_v1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60_0 : Ref sig .tc := ⟨.hbm, 71, rfl⟩
abbrev main_v60_1 : Ref sig .tc := ⟨.hbm, 72, rfl⟩
abbrev main_v60_2 : Ref sig .tc := ⟨.hbm, 73, rfl⟩
abbrev main_v60_3 : Ref sig .tc := ⟨.hbm, 74, rfl⟩
abbrev main_v60_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InProjRefIdeal.lean ====
abbrev S8x2048x1024 : Shape := ⟨3, ![8, 2048, 1024]⟩
abbrev S16x1x6144 : Shape := ⟨3, ![16, 1, 6144]⟩
abbrev S1024 : Shape := ⟨1, ![1024]⟩
abbrev S1024x4352 : Shape := ⟨2, ![1024, 4352]⟩
abbrev S64 : Shape := ⟨1, ![64]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4352 : Shape := ⟨3, ![8, 2048, 4352]⟩
abbrev S8x2048x1536 : Shape := ⟨3, ![8, 2048, 1536]⟩
abbrev S8x2048x128 : Shape := ⟨3, ![8, 2048, 128]⟩
abbrev S8x2048x2048 : Shape := ⟨3, ![8, 2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1x6144, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x4352, .f32⟩
  | .hbm, ⟨32, _⟩ => ⟨S8x2048x1536, .f32⟩
  | .hbm, ⟨33, _⟩ => ⟨S8x2048x1536, .bf16⟩
  | .hbm, ⟨34, _⟩ => ⟨S8x2048x128, .f32⟩
  | .hbm, ⟨35, _⟩ => ⟨S8x2048x128, .bf16⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.AttnUnit.lean ====
module

public import proofs.«01_k».proof.Proof.Gen.AttnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem

/-- The scores of one head's block of queries against a window of keys: the queries times the head's lanes, against
the keys, plus the mask's table. -/
def winScores (q msk : FVec Ideal S128x128 .bf16) (kw : FVec Ideal S384x128 .bf16) (b : FVec Ideal S128x384 .f32) :
    FVec Ideal S128x384 .f32 :=
  addf (matmul dot_S128x128_S384x128_S128x384_1_1_0_0_n_n none (mulf q msk) kw (constant S128x384 .f32 0x00000000#32)) b

/-- The scores of one head's block of queries against the context's keys. -/
def ctxScores (q msk : FVec Ideal S128x128 .bf16) (kc : FVec Ideal S256x128 .bf16) : FVec Ideal S128x256 .f32 :=
  matmul dot_S128x128_S256x128_S128x256_1_1_0_0_n_n none (mulf q msk) kc (constant S128x256 .f32 0x00000000#32)

/-- A row's largest score. -/
def topScore (sw : FVec Ideal S128x384 .f32) (sc : FVec Ideal S128x256 .f32) (z : Ideal .f32) : FVec Ideal S128x1 .f32 :=
  maximumf (maximumf
    (shapeCast S128x1 (multiReduction .maximumf [1] S128 sw 0xFF800000#32 reduces_S128x384_S128 (.inl rfl) rfl) shapeCasts_S128_S128x1)
    (shapeCast S128x1 (multiReduction .maximumf [1] S128 sc 0xFF800000#32 reduces_S128x256_S128 (.inl rfl) rfl) shapeCasts_S128_S128x1))
    (broadcast S128x1 z)

/-- One head's weighted values with the weights' sum in the other half of the lanes. -/
def weighted (sw : FVec Ideal S128x384 .f32) (sc : FVec Ideal S128x256 .f32) (vw : FVec Ideal S384x128 .bf16)
    (vc : FVec Ideal S256x128 .bf16) (m : FVec Ideal S128x1 .f32) : FVec Ideal S128x128 .f32 :=
  addf (matmul dot_S128x384_S384x128_S128x128_1_0_0_1_n_n none
      (truncf .bf16 (exp2 (subf sw (broadcastTo S128x384 m broadcasts_S128x1_S128x384))) bitsLt_bf16_f32) vw
      (constant S128x128 .f32 0x00000000#32))
    (matmul dot_S128x256_S256x128_S128x128_1_0_0_1_n_n none
      (truncf .bf16 (exp2 (subf sc (broadcastTo S128x256 m broadcasts_S128x1_S128x256))) bitsLt_bf16_f32) vc
      (constant S128x128 .f32 0x00000000#32))

/-- One head's block: the weighted values over the weights' sum with the sink's. -/
def headOut (sw : FVec Ideal S128x384 .f32) (sc : FVec Ideal S128x256 .f32) (vw : FVec Ideal S384x128 .bf16)
    (vc : FVec Ideal S256x128 .bf16) (z : Ideal .f32) : FVec Ideal S128x128 .f32 :=
  divf (weighted sw sc vw vc (topScore sw sc z))
    (addf (dynamicRotate 1 64#32 none (weighted sw sc vw vc (topScore sw sc z)) rotates_S128x128_d1)
      (broadcastTo S128x128 (exp2 (subf (broadcast S128x1 z) (topScore sw sc z))) broadcasts_S128x1_S128x128))

/-- One block of queries of one pair of heads. -/
def pairOut (kc vc : Vec Ideal S1x256x128 .bf16)
    (kw vl vh : FVec Ideal S384x128 .bf16) (b : FVec Ideal S1x128x384 .f32) (q : FVec Ideal S1x128x128 .bf16) (z0 z1 : Ideal .f32) :
    FVec Ideal S1x128x128 .bf16 :=
  let q' := shapeCast S128x128 q shapeCasts_S1x128x128_S128x128
  let b' := shapeCast S128x384 b shapeCasts_S1x128x384_S128x384
  shapeCast S1x128x128 (truncf .bf16 (select k0_pay619
    (headOut (winScores q' k0_pay620 kw b') (ctxScores q' k0_pay620 (k0_pay6 kc)) vl (k0_pay10 vc) z0)
    (headOut (winScores q' k0_pay621 kw b') (ctxScores q' k0_pay621 (k0_pay6 kc)) vh (k0_pay11 vc) z1)) bitsLt_bf16_f32)
    shapeCasts_S128x128_S1x128x128

/-- One row of the kernel's softmax: base two, from the scores `s` on the window, `t` on the context and `z` the sink, the
values `vw`, `vc`, and the columns `o`, `oc` that sum the weights. -/
def rowVal (s : Fin 384 → EReal) (t : Fin 256 → EReal) (z : EReal) (vw o : Fin 384 → EReal) (vc oc : Fin 256 → EReal) : EReal :=
  let m := max (max (Finset.univ.fold max (⊥ : EReal) s) (Finset.univ.fold max (⊥ : EReal) t)) z
  Ideal.div (∑ i, Ideal.exp2 (s i - m) * vw i + ∑ i, Ideal.exp2 (t i - m) * vc i)
    ((∑ i, Ideal.exp2 (s i - m) * o i + ∑ i, Ideal.exp2 (t i - m) * oc i) + Ideal.exp2 (z - m))

/-- The constant the maxima start from is minus infinity. -/
theorem neg_inf : Ideal.ofBits FTy.f32 4286578688#32 = (⊥ : EReal) := by
  simp [Ideal.ofBits, Ideal.ieee]

/-- The largest score of a row. -/
theorem topScore_at (sw : FVec Ideal S128x384 .f32) (sc : FVec Ideal S128x256 .f32) (z : Ideal .f32) (r : Fin 128) (a : Fin 1) :
    topScore sw sc z (ix2 r a) = max (max (Finset.univ.fold max (⊥ : EReal) fun i : Fin 384 => sw (ix2 r i))
      (Finset.univ.fold max (⊥ : EReal) fun i : Fin 256 => sc (ix2 r i))) z := by
  pointwise [topScore]
  rw [neg_inf]

/-- A row of one head's weighted values. -/
theorem weighted_at (sw : FVec Ideal S128x384 .f32) (sc : FVec Ideal S128x256 .f32) (vw : FVec Ideal S384x128 .bf16)
    (vc : FVec Ideal S256x128 .bf16) (m : FVec Ideal S128x1 .f32) (r l : Fin 128) :
    weighted sw sc vw vc m (ix2 r l) = ∑ i : Fin 384, Ideal.exp2 (sw (ix2 r i) - m (ix2 r 0)) * vw (ix2 i l)
      + ∑ i : Fin 256, Ideal.exp2 (sc (ix2 r i) - m (ix2 r 0)) * vc (ix2 i l) := by
  pointwise [weighted]
  rfl

/-- A row of one head's block. -/
theorem headOut_at (sw : FVec Ideal S128x384 .f32) (sc : FVec Ideal S128x256 .f32) (vw : FVec Ideal S384x128 .bf16)
    (vc : FVec Ideal S256x128 .bf16) (z : Ideal .f32) (r l l' : Fin 128) (hl : l'.val = (l.val + 64) % 128) :
    headOut sw sc vw vc z (ix2 r l) = rowVal (fun i => sw (ix2 r i)) (fun i => sc (ix2 r i)) z (fun i => vw (ix2 i l))
      (fun i => vw (ix2 i l')) (fun i => vc (ix2 i l)) (fun i => vc (ix2 i l')) := by
  pointwise [headOut]
  have e : (⟨(l.val + 128 - 64) % 128, by omega⟩ : Fin 128) = l' := Fin.ext (by show (l.val + 128 - 64) % 128 = l'.val; omega)
  rw [e, weighted_at, weighted_at, topScore_at]
  rfl

/-- A choice by the half of the lanes. -/
theorem lane_lt {α : Type} (l : Fin 128) (a b : α) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by
    decide +kernel
  rw [h l]
  split <;> rfl

/-- A sum over the lanes of which the lower half counts. -/
theorem sum_lo (f : Fin 128 → EReal) : ∑ x, (if x.val < 64 then f x else 0) = ∑ e : Fin 64, f ⟨e.val, by omega⟩ := by
  rw [show (∑ x : Fin 128, if x.val < 64 then f x else 0) = ∑ x : Fin (64 + 64), if x.val < 64 then f x else 0 from rfl,
    Fin.sum_univ_add]
  have h2 : ∑ e : Fin 64, (if (Fin.natAdd 64 e).val < 64 then f (Fin.natAdd 64 e) else 0) = 0 :=
    Finset.sum_eq_zero fun e _ => if_neg (by simp)
  rw [h2, add_zero]
  exact Finset.sum_congr rfl fun e _ => if_pos (by simp)

/-- A sum over the lanes of which the upper half counts. -/
theorem sum_hi (f : Fin 128 → EReal) : ∑ x, (if x.val < 64 then 0 else f x) = ∑ e : Fin 64, f ⟨64 + e.val, by omega⟩ := by
  rw [show (∑ x : Fin 128, if x.val < 64 then 0 else f x) = ∑ x : Fin (64 + 64), if x.val < 64 then 0 else f x from rfl,
    Fin.sum_univ_add]
  have h2 : ∑ e : Fin 64, (if (Fin.castAdd 64 e).val < 64 then 0 else f (Fin.castAdd 64 e)) = 0 :=
    Finset.sum_eq_zero fun e _ => if_pos (by simp)
  rw [h2, zero_add]
  exact Finset.sum_congr rfl fun e _ => if_neg (by simp)

/-- The queries' product with the keys over the lower half of the lanes. -/
theorem winScores_lo (q : FVec Ideal S1x128x128 .bf16) (kw : FVec Ideal S384x128 .bf16) (b : FVec Ideal S1x128x384 .f32) (r : Fin 128) (i : Fin 384) :
    winScores (shapeCast S128x128 q shapeCasts_S1x128x128_S128x128) k0_pay620 kw (shapeCast S128x384 b shapeCasts_S1x128x384_S128x384) (ix2 r i)
      = ∑ e : Fin 64, q (ix3 0 r ⟨e.val, by omega⟩) * kw (ix2 i ⟨e.val, by omega⟩) + b (ix3 0 r i) := by
  pointwise [winScores, k0_pay620, k0_pay619]
  simp only [lane_lt]
  rw [sum_lo fun x => q (ix3 0 r x) * kw (ix2 i x)]

/-- The queries' product with the keys over the upper half of the lanes. -/
theorem winScores_hi (q : FVec Ideal S1x128x128 .bf16) (kw : FVec Ideal S384x128 .bf16) (b : FVec Ideal S1x128x384 .f32) (r : Fin 128) (i : Fin 384) :
    winScores (shapeCast S128x128 q shapeCasts_S1x128x128_S128x128) k0_pay621 kw (shapeCast S128x384 b shapeCasts_S1x128x384_S128x384) (ix2 r i)
      = ∑ e : Fin 64, q (ix3 0 r ⟨64 + e.val, by omega⟩) * kw (ix2 i ⟨64 + e.val, by omega⟩) + b (ix3 0 r i) := by
  pointwise [winScores, k0_pay621, k0_pay619]
  simp only [lane_lt]
  rw [sum_hi fun x => q (ix3 0 r x) * kw (ix2 i x)]

/-- The same against the context's keys, lower half. -/
theorem ctxScores_lo (q : FVec Ideal S1x128x128 .bf16) (kc : Vec Ideal S1x256x128 .bf16) (r : Fin 128) (i : Fin 256) :
    ctxScores (shapeCast S128x128 q shapeCasts_S1x128x128_S128x128) k0_pay620 (k0_pay6 kc) (ix2 r i)
      = ∑ e : Fin 64, q (ix3 0 r ⟨e.val, by omega⟩) * kc (ix3 0 i ⟨e.val, by omega⟩) := by
  pointwise [ctxScores, k0_pay620, k0_pay619, k0_pay6]
  simp only [lane_lt]
  rw [sum_lo fun x => q (ix3 0 r x) * kc (ix3 0 i x)]

/-- The same against the context's keys, upper half. -/
theorem ctxScores_hi (q : FVec Ideal S1x128x128 .bf16) (kc : Vec Ideal S1x256x128 .bf16) (r : Fin 128) (i : Fin 256) :
    ctxScores (shapeCast S128x128 q shapeCasts_S1x128x128_S128x128) k0_pay621 (k0_pay6 kc) (ix2 r i)
      = ∑ e : Fin 64, q (ix3 0 r ⟨64 + e.val, by omega⟩) * kc (ix3 0 i ⟨64 + e.val, by omega⟩) := by
  pointwise [ctxScores, k0_pay621, k0_pay619, k0_pay6]
  simp only [lane_lt]
  rw [sum_hi fun x => q (ix3 0 r x) * kc (ix3 0 i x)]

/-- The context's values with ones in the upper half of the lanes. -/
theorem pay10_at (v : FVec Ideal S1x256x128 .bf16) (i : Fin 256) (l : Fin 128) :
    k0_pay10 v (ix2 i l) = if l.val < 64 then v (ix3 0 i l) else 1 := by
  unfold_payloads
  pointwise
  exact lane_lt l _ _

/-- The context's values with ones in the lower half of the lanes. -/
theorem pay11_at (v : FVec Ideal S1x256x128 .bf16) (i : Fin 256) (l : Fin 128) :
    k0_pay11 v (ix2 i l) = if l.val < 64 then 1 else v (ix3 0 i l) := by
  unfold_payloads
  pointwise
  exact lane_lt l _ _

/-- A lane `d` of half `h` of a pair of heads. -/
def lane (h : Fin 2) (d : Fin 64) : Fin 128 := ⟨64 * h.val + d.val, by omega⟩

/-- One element of a block of one pair of heads: the row of the head its lane belongs to. -/
theorem pairOut_at (kc vc : Vec Ideal S1x256x128 .bf16) (kw : FVec Ideal S384x128 .bf16) (vl vh : FVec Ideal S384x128 .bf16)
    (b : FVec Ideal S1x128x384 .f32) (q : FVec Ideal S1x128x128 .bf16) (z0 z1 : Ideal .f32) (a : Fin 1) (r : Fin 128) (h : Fin 2) (d : Fin 64) :
    pairOut kc vc kw vl vh b q z0 z1 (ix3 a r (lane h d))
      = rowVal (fun i => ∑ e : Fin 64, q (ix3 0 r (lane h e)) * kw (ix2 i (lane h e)) + b (ix3 0 r i))
          (fun i => ∑ e : Fin 64, q (ix3 0 r (lane h e)) * kc (ix3 0 i (lane h e)))
          (if h = 0 then z0 else z1)
          (fun i => (if h = 0 then vl else vh) (ix2 i (lane h d))) (fun i => (if h = 0 then vl else vh) (ix2 i (lane (1 - h) d)))
          (fun i => vc (ix3 0 i (lane h d))) (fun _ => 1) := by
  pointwise [pairOut, k0_pay619]
  rw [lane_lt]
  match h with
  | 0 =>
    have e1 : ∀ e : Fin 64, lane 0 e = ⟨e.val, by omega⟩ := fun e => Fin.ext (by simp [lane])
    rw [if_pos (by simp [lane]), headOut_at _ _ _ _ _ _ _ (lane 1 d) (by simp [lane]; omega)]
    simp only [winScores_lo, ctxScores_lo, pay10_at, e1, if_true, sub_zero]
    congr 1
    · funext i; exact if_pos d.isLt
    · funext i; exact if_neg (by simp [lane])
  | 1 =>
    have e1 : ∀ e : Fin 64, lane 1 e = ⟨64 + e.val, by omega⟩ := fun e => Fin.ext (by simp [lane])
    rw [if_neg (by simp [lane]), headOut_at _ _ _ _ _ _ _ (lane 0 d) (by simp [lane]; omega)]
    simp only [winScores_hi, ctxScores_hi, pay11_at, e1]
    congr 1
    · funext i; exact if_neg (by simp)
    · funext i; exact if_pos (by simp [lane])

end Cert.AttnIdeal.Value
end
-- ==== Proof.AttnTrip.lean ====
module

public import proofs.«01_k».proof.Proof.AttnUnit
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem

/-- A rectangle's offsets, computed. -/
theorem off_eq3 {o : Fin 3 → ℕ} {a b c a' b' c' : ℕ} (h : o = ![a, b, c]) (h' : a = a' ∧ b = b' ∧ c = c') : o = ![a', b', c'] := by
  obtain ⟨rfl, rfl, rfl⟩ := h'; exact h

/-- The same in two axes. -/
theorem off_eq2 {o : Fin 2 → ℕ} {a b a' b' : ℕ} (h : o = ![a, b]) (h' : a = a' ∧ b = b') : o = ![a', b'] := by
  obtain ⟨rfl, rfl⟩ := h'; exact h

/-- Which of the mask's three tables a block of queries takes. -/
def tableOf (n : Fin 16) : Fin 3 := if n.val = 0 then 0 else if n.val = 15 then 2 else 1

/-- One element of the kernel's result for one batch, from the prepared queries `Q`, the mask's tables `B`, the padded
keys `K`, the padded values with ones in the upper or lower lanes `VL`, `VH`, the context `kc`, `vc` and the sinks `Z`:
block `n`, row `r`, pair of heads `j`, half `h`, lane `d`. -/
def attnAt (Q : S1x2048x512.Idx → EReal) (B : S3x128x384.Idx → EReal) (K VL VH : S2304x128.Idx → EReal)
    (kc vc : S1x256x128.Idx → EReal) (Z : S8.Idx → EReal) (n : Fin 16) (r : Fin 128) (j : Fin 4) (h : Fin 2) (d : Fin 64) : EReal :=
  rowVal
    (fun i => ∑ e : Fin 64, Q (ix3 0 ⟨128 * n.val + r.val, by omega⟩ ⟨128 * j.val + (lane h e).val, by omega⟩)
      * K (ix2 ⟨128 * n.val + i.val, by omega⟩ (lane h e)) + B (ix3 (tableOf n) r i))
    (fun i => ∑ e : Fin 64, Q (ix3 0 ⟨128 * n.val + r.val, by omega⟩ ⟨128 * j.val + (lane h e).val, by omega⟩) * kc (ix3 0 i (lane h e)))
    (Z (ix1 ⟨j.val + 4 * h.val, by omega⟩))
    (fun i => (if h = 0 then VL else VH) (ix2 ⟨128 * n.val + i.val, by omega⟩ (lane h d)))
    (fun i => (if h = 0 then VL else VH) (ix2 ⟨128 * n.val + i.val, by omega⟩ (lane (1 - h) d)))
    (fun i => vc (ix3 0 i (lane h d))) (fun _ => 1)

/-- The same at an index of the block of results. -/
def attnOut (Q : S1x2048x512.Idx → EReal) (B : S3x128x384.Idx → EReal) (K VL VH : S2304x128.Idx → EReal)
    (kc vc : S1x256x128.Idx → EReal) (Z : S8.Idx → EReal) (y : S1x2048x512.Idx) : EReal :=
  have h1 : (y 1).val < 2048 := (y 1).isLt
  have h2 : (y 2).val < 512 := (y 2).isLt
  attnAt Q B K VL VH kc vc Z ⟨(y 1).val / 128, by omega⟩ ⟨(y 1).val % 128, by omega⟩ ⟨(y 2).val / 128, by omega⟩
    ⟨(y 2).val % 128 / 64, by omega⟩ ⟨(y 2).val % 64, by omega⟩

/-- One store of the kernel's loop holds the results of its block. -/
theorem pair_tile (Q : S1x2048x512.Idx → Ideal .bf16) (B : S3x128x384.Idx → Ideal .f32) (K VL VH : S2304x128.Idx → Ideal .bf16)
    (kc vc : Vec Ideal S1x256x128 .bf16) (Z : S8.Idx → Ideal .f32) (n : Fin 16) (j : Fin 4)
    (offo offq : Fin 3 → ℕ) (offb : Fin 3 → ℕ) (offk offv : Fin 2 → ℕ) (off0 off1 : Fin 1 → ℕ)
    (ho : offo = ![0, 128 * n.val, 128 * j.val]) (hq : offq = ![0, 128 * n.val, 128 * j.val]) (hb : offb = ![(tableOf n).val, 0, 0])
    (hk : offk = ![128 * n.val, 0]) (hv : offv = ![128 * n.val, 0]) (h0 : off0 = ![j.val]) (h1 : off1 = ![j.val + 4])
    (inbq : ∀ a, offq a + S1x128x128.size a ≤ S1x2048x512.size a) (inbb : ∀ a, offb a + S1x128x384.size a ≤ S3x128x384.size a)
    (inbk : ∀ a, offk a + S384x128.size a ≤ S2304x128.size a) (inbv : ∀ a, offv a + S384x128.size a ≤ S2304x128.size a)
    (inb0 : ∀ a, off0 a + S1.size a ≤ S8.size a) (inb1 : ∀ a, off1 a + S1.size a ≤ S8.size a) (hf : 0 < S1.numel)
    (y : S1x2048x512.Idx) :
    View.TileAt (Val := Elt Ideal) (S := S1x2048x512) (e := .bf16) y offo ![1, 128, 128]
      (pairOut kc vc (View.ld (Val := Elt Ideal) (e' := .bf16) K (Rect.unit offk S384x128.size inbk))
        (View.ld (Val := Elt Ideal) (e' := .bf16) VL (Rect.unit offv S384x128.size inbv))
        (View.ld (Val := Elt Ideal) (e' := .bf16) VH (Rect.unit offv S384x128.size inbv))
        (View.ld (Val := Elt Ideal) (e' := .f32) B (Rect.unit offb S1x128x384.size inbb))
        (View.ld (Val := Elt Ideal) (e' := .bf16) Q (Rect.unit offq S1x128x128.size inbq))
        (View.ld (Val := Elt Ideal) (e' := .f32) Z (Rect.unit off0 S1.size inb0) (Shape.Idx.first hf))
        (View.ld (Val := Elt Ideal) (e' := .f32) Z (Rect.unit off1 S1.size inb1) (Shape.Idx.first hf)))
      (attnOut Q B K VL VH kc vc Z y) := by
  subst ho hq hb hk hv h0 h1
  intro x hx
  have hx1 : (y 1).val = 128 * n.val + (x 1).val := hx 1
  have hx2 : (y 2).val = 128 * j.val + (x 2).val := hx 2
  obtain ⟨a, r, l, rfl⟩ : ∃ (a : Fin 1) (r l : Fin 128), x = ix3 a r l := ⟨x 0, x 1, x 2, by funext q; match q with | 0 => rfl | 1 => rfl | 2 => rfl⟩
  obtain ⟨h, d, rfl⟩ : ∃ (h : Fin 2) (d : Fin 64), l = lane h d :=
    ⟨⟨l.val / 64, by omega⟩, ⟨l.val % 64, by omega⟩, Fin.ext (by show l.val = 64 * (l.val / 64) + l.val % 64; omega)⟩
  have e1 : (y 1).val = 128 * n.val + r.val := hx1
  have e2 : (y 2).val = 128 * j.val + (64 * h.val + d.val) := hx2
  have hy : attnOut Q B K VL VH kc vc Z y = attnAt Q B K VL VH kc vc Z n r j h d := by
    unfold attnOut
    show attnAt Q B K VL VH kc vc Z _ _ _ _ _ = _
    congr 1 <;> apply Fin.ext <;> dsimp only <;> omega
  rw [hy, pairOut_at]
  unfold attnAt
  have rq : ∀ e : Fin 64, View.ld (Val := Elt Ideal) (e' := .bf16) Q (Rect.unit ![0, 128 * n.val, 128 * j.val] S1x128x128.size inbq) (ix3 0 r (lane h e))
      = Q (ix3 0 ⟨128 * n.val + r.val, by omega⟩ ⟨128 * j.val + (lane h e).val, by omega⟩) := fun e =>
    View.ld_unit_apply_of (Val := Elt Ideal) (e := .bf16) Q _ _ _ _ _ (fun a => by match a with | 0 => rfl | 1 => rfl | 2 => rfl)
  have rk : ∀ (i : Fin 384) (e : Fin 128), View.ld (Val := Elt Ideal) (e' := .bf16) K (Rect.unit ![128 * n.val, 0] S384x128.size inbk) (ix2 i e)
      = K (ix2 ⟨128 * n.val + i.val, by omega⟩ e) := fun i e =>
    View.ld_unit_apply_of (Val := Elt Ideal) (e := .bf16) K _ _ _ _ _ (fun a => by match a with | 0 => rfl | 1 => exact (Nat.zero_add _).symm)
  have rv : ∀ (V : S2304x128.Idx → Ideal .bf16) (i : Fin 384) (e : Fin 128), View.ld (Val := Elt Ideal) (e' := .bf16) V (Rect.unit ![128 * n.val, 0] S384x128.size inbv) (ix2 i e)
      = V (ix2 ⟨128 * n.val + i.val, by omega⟩ e) := fun V i e =>
    View.ld_unit_apply_of (Val := Elt Ideal) (e := .bf16) V _ _ _ _ _ (fun a => by match a with | 0 => rfl | 1 => exact (Nat.zero_add _).symm)
  have rb : ∀ (i : Fin 384), View.ld (Val := Elt Ideal) (e' := .f32) B (Rect.unit ![(tableOf n).val, 0, 0] S1x128x384.size inbb) (ix3 0 r i)
      = B (ix3 (tableOf n) r i) := fun i =>
    View.ld_unit_apply_of (Val := Elt Ideal) (e := .f32) B _ _ _ _ _ (fun a => by match a with | 0 => rfl | 1 => exact (Nat.zero_add _).symm | 2 => exact (Nat.zero_add _).symm)
  have rz : (if h = 0 then View.ld (Val := Elt Ideal) (e' := .f32) Z (Rect.unit ![j.val] S1.size inb0) (Shape.Idx.first hf)
      else View.ld (Val := Elt Ideal) (e' := .f32) Z (Rect.unit ![j.val + 4] S1.size inb1) (Shape.Idx.first hf)) = Z (ix1 ⟨j.val + 4 * h.val, by omega⟩) := by
    match h with
    | 0 => rw [if_pos rfl]; exact View.ld_unit_apply_of (Val := Elt Ideal) (e := .f32) Z _ _ _ _ _ (fun a => by match a with | 0 => rfl)
    | 1 => rw [if_neg (by decide)]; exact View.ld_unit_apply_of (Val := Elt Ideal) (e := .f32) Z _ _ _ _ _ (fun a => by match a with | 0 => rfl)
  rw [rz]
  congr 1
  · funext i
    exact congrArg₂ (· + ·) (Finset.sum_congr rfl fun e _ => congrArg₂ (· * ·) (rq e) (rk i _)) (rb i)
  · funext i
    exact Finset.sum_congr rfl fun e _ => congrArg₂ (· * ·) (rq e) rfl
  · funext i
    match h with
    | 0 => exact rv VL i _
    | 1 => exact rv VH i _
  · funext i
    match h with
    | 0 => exact rv VL i _
    | 1 => exact rv VH i _

variable (c : Dev nD) (i : grid0.Coords)
  (arg1 : Memref sig .tc .smem S8 .f32) (harg1 : arg1.IsWhole) (arg2 : Memref sig .tc .vmem S1x2048x512 .bf16) (harg2 : arg2.IsWhole)
  (arg3 : Memref sig .tc .vmem S1x2048x128 .bf16) (harg3 : arg3.IsWhole) (arg4 : Memref sig .tc .vmem S1x2048x128 .bf16) (harg4 : arg4.IsWhole)
  (arg5 : Memref sig .tc .vmem S1x256x128 .bf16) (harg5 : arg5.IsWhole) (arg6 : Memref sig .tc .vmem S1x256x128 .bf16) (harg6 : arg6.IsWhole)
  (arg7 : Memref sig .tc .vmem S3x128x384 .f32) (harg7 : arg7.IsWhole) (arg8 : Memref sig .tc .vmem S1x2048x512 .bf16) (harg8 : arg8.IsWhole)
  (arg9 : Memref sig .tc .vmem S2304x128 .bf16) (harg9 : arg9.IsWhole) (arg10 : Memref sig .tc .vmem S2304x128 .bf16) (harg10 : arg10.IsWhole)
  (arg11 : Memref sig .tc .vmem S2304x128 .bf16) (harg11 : arg11.IsWhole)
  (v49 v51 : Vec Ideal S1x256x128 .bf16)
  (X1 : BufTy.Contents (Elt Ideal) arg1.view.ty) (X2 : BufTy.Contents (Elt Ideal) arg2.view.ty) (X7 : BufTy.Contents (Elt Ideal) arg7.view.ty)
  (X9 : BufTy.Contents (Elt Ideal) arg9.view.ty) (X10 : BufTy.Contents (Elt Ideal) arg10.view.ty) (X11 : BufTy.Contents (Elt Ideal) arg11.view.ty)

set_option maxHeartbeats 20000000 in
/-- Every store of one trip of the kernel's loop holds the attention of its block. -/
theorem trip_at (k : Fin k0_t1_loop.trips) (y : S1x2048x512.Idx) :
    View.AllAt (tripL_k0_t1 Variants.none c none i arg1 harg1 arg2 harg2 arg3 harg3 arg4 harg4 arg5 harg5 arg6 harg6 arg7 harg7 arg8 harg8
      arg9 harg9 arg10 harg10 arg11 harg11 k0_pay619 k0_pay620 k0_pay621 v49 v51 X1 X2 X7 X9 X10 X11 k) y
      (attnOut (arg2.view.read (Elt Ideal) X2) (arg7.view.read (Elt Ideal) X7) (arg9.view.read (Elt Ideal) X9)
        (arg10.view.read (Elt Ideal) X10) (arg11.view.read (Elt Ideal) X11) v49 v51 (arg1.view.read (Elt Ideal) X1) y) := by
  have hk : k.val < 2 := Nat.lt_of_lt_of_le k.isLt k0_t1_abs.2.1
  have hk2 : k.val = 0 ∨ k.val = 1 := by omega
  have tile := pair_tile (arg2.view.read (Elt Ideal) X2) (arg7.view.read (Elt Ideal) X7) (arg9.view.read (Elt Ideal) X9)
    (arg10.view.read (Elt Ideal) X10) (arg11.view.read (Elt Ideal) X11) v49 v51 (arg1.view.read (Elt Ideal) X1)
  unfold tripL_k0_t1 trip_k0_t1
  dsimp only
  refine View.allAt_cons_unit _ _ _ _ _ (tile ⟨8 * k.val + 7, by omega⟩ 3 (k0_off17 k 7#32) (k0_off12 k 6#32) (k0_off8 k 6#32) (k0_off7 k 6#32) (k0_off13 k 7#32) ![3] ![7]
    (off_eq3 (b := 1024 * k.val + 128 * 7) (c := 384) (k0_off17_eq k 7) ⟨rfl, by dsimp only; omega, rfl⟩) (off_eq3 (b := 1024 * k.val + 128 * 6 + 128) (c := 384) (k0_off12_eq k 6) ⟨rfl, by dsimp only; omega, rfl⟩)
    (off_eq3 (a := if 8 * k.val + 6 + 1 = 15 then 2 else 1) (k0_off8_eq k 6) ⟨by rcases hk2 with h | h <;> simp [tableOf, h], rfl, rfl⟩)
    (off_eq2 (a := 1024 * k.val + 128 * 6 + 128) (k0_off7_eq k 6) ⟨by dsimp only; omega, rfl⟩) (off_eq2 (a := 1024 * k.val + 128 * 7) (k0_off13_eq k 7) ⟨by dsimp only; omega, rfl⟩) rfl rfl
    (k0_off12_inb k 6) (k0_off8_inb k 6) (k0_off7_inb k 6) (k0_off13_inb k 7) inb_S8_S1_3 inb_S8_S1_7 (by decide) y) ?_
  refine View.allAt_cons_unit _ _ _ _ _ (tile ⟨8 * k.val + 7, by omega⟩ 2 (k0_off16 k 7#32) (k0_off11 k 6#32) (k0_off8 k 6#32) (k0_off7 k 6#32) (k0_off13 k 7#32) ![2] ![6]
    (off_eq3 (b := 1024 * k.val + 128 * 7) (c := 256) (k0_off16_eq k 7) ⟨rfl, by dsimp only; omega, rfl⟩) (off_eq3 (b := 1024 * k.val + 128 * 6 + 128) (c := 256) (k0_off11_eq k 6) ⟨rfl, by dsimp only; omega, rfl⟩)
    (off_eq3 (a := if 8 * k.val + 6 + 1 = 15 then 2 else 1) (k0_off8_eq k 6) ⟨by rcases hk2 with h | h <;> simp [tableOf, h], rfl, rfl⟩)
    (off_eq2 (a := 1024 * k.val + 128 * 6 + 128) (k0_off7_eq k 6) ⟨by dsimp only; omega, rfl⟩) (off_eq2 (a := 1024 * k.val + 128 * 7) (k0_off13_eq k 7) ⟨by dsimp only; omega, rfl⟩) rfl rfl
    (k0_off11_inb k 6) (k0_off8_inb k 6) (k0_off7_inb k 6) (k0_off13_inb k 7) inb_S8_S1_2 inb_S8_S1_6 (by decide) y) ?_
  refine View.allAt_cons_unit _ _ _ _ _ (tile ⟨8 * k.val + 7, by omega⟩ 1 (k0_off15 k 7#32) (k0_off10 k 6#32) (k0_off8 k 6#32) (k0_off7 k 6#32) (k0_off13 k 7#32) ![1] ![5]
    (off_eq3 (b := 1024 * k.val + 128 * 7) (c := 128) (k0_off15_eq k 7) ⟨rfl, by dsimp only; omega, rfl⟩) (off_eq3 (b := 1024 * k.val + 128 * 6 + 128) (c := 128) (k0_off10_eq k 6) ⟨rfl, by dsimp only; omega, rfl⟩)
    (off_eq3 (a := if 8 * k.val + 6 + 1 = 15 then 2 else 1) (k0_off8_eq k 6) ⟨by rcases hk2 with h | h <;> simp [tableOf, h], rfl, rfl⟩)
    (off_eq2 (a := 1024 * k.val + 128 * 6 + 128) (k0_off7_eq k 6) ⟨by dsimp only; omega, rfl⟩) (off_eq2 (a := 1024 * k.val + 128 * 7) (k0_off13_eq k 7) ⟨by dsimp only; omega, rfl⟩) rfl rfl
    (k0_off10_inb k 6) (k0_off8_inb k 6) (k0_off7_inb k 6) (k0_off13_inb k 7) inb_S8_S1_1 inb_S8_S1_5 (by decide) y) ?_
  refine View.allAt_cons_unit _ _ _ _ _ (tile ⟨8 * k.val + 7, by omega⟩ 0 (k0_off14 k 7#32) (k0_off9 k 6#32) (k0_off8 k 6#32) (k0_off7 k 6#32) (k0_off13 k 7#32) ![0] ![4]
    (off_eq3 (b := 1024 * k.val + 128 * 7) (c := 0) (k0_off14_eq k 7) ⟨rfl, by dsimp only; omega, rfl⟩) (off_eq3 (b := 1024 * k.val + 128 * 6 + 128) (c := 0) (k0_off9_eq k 6) ⟨rfl, by dsimp only; omega, rfl⟩)
    (off_eq3 (a := if 8 * k.val + 6 + 1 = 15 then 2 else 1) (k0_off8_eq k 6) ⟨by rcases hk2 with h | h <;> simp [tableOf, h], rfl, rfl⟩)
    (off_eq2 (a := 1024 * k.val + 128 * 6 + 128) (k0_off7_eq k 6) ⟨by dsimp only; omega, rfl⟩) (off_eq2 (a := 1024 * k.val + 128 * 7) (k0_off13_eq k 7) ⟨by dsimp only; omega, rfl⟩) rfl rfl
    (k0_off9_inb k 6) (k0_off8_inb k 6) (k0_off7_inb k 6) (k0_off13_inb k 7) inb_S8_S1_0 inb_S8_S1_4 (by decide) y) ?_
  refine View.allAt_cons_unit _ _ _ _ _ (tile ⟨8 * k.val + 6, by omega⟩ 3 (k0_off17 k 6#32) (k0_off12 k 5#32) (k0_off8 k 5#32) (k0_off7 k 5#32) (k0_off13 k 6#32) ![3] ![7]
    (off_eq3 (b := 1024 * k.val + 128 * 6) (c := 384) (k0_off17_eq k 6) ⟨rfl, by dsimp only; omega, rfl⟩) (off_eq3 (b := 1024 * k.val + 128 * 5 + 128) (c := 384) (k0_off12_eq k 5) ⟨rfl, by dsimp only; omega, rfl⟩)
    (off_eq3 (a := if 8 * k.val + 5 + 1 = 15 then 2 else 1) (k0_off8_eq k 5) ⟨by rcases hk2 with h | h <;> simp [tableOf, h], rfl, rfl⟩)
    (off_eq2 (a := 1024 * k.val + 128 * 5 + 128) (k0_off7_eq k 5) ⟨by dsimp only; omega, rfl⟩) (off_eq2 (a := 1024 * k.val + 128 * 6) (k0_off13_eq k 6) ⟨by dsimp only; omega, rfl⟩) rfl rfl
    (k0_off12_inb k 5) (k0_off8_inb k 5) (k0_off7_inb k 5) (k0_off13_inb k 6) inb_S8_S1_3 inb_S8_S1_7 (by decide) y) ?_
  refine View.allAt_cons_unit _ _ _ _ _ (tile ⟨8 * k.val + 6, by omega⟩ 2 (k0_off16 k 6#32) (k0_off11 k 5#32) (k0_off8 k 5#32) (k0_off7 k 5#32) (k0_off13 k 6#32) ![2] ![6]
    (off_eq3 (b := 1024 * k.val + 128 * 6) (c := 256) (k0_off16_eq k 6) ⟨rfl, by dsimp only; omega, rfl⟩) (off_eq3 (b := 1024 * k.val + 128 * 5 + 128) (c := 256) (k0_off11_eq k 5) ⟨rfl, by dsimp only; omega, rfl⟩)
    (off_eq3 (a := if 8 * k.val + 5 + 1 = 15 then 2 else 1) (k0_off8_eq k 5) ⟨by rcases hk2 with h | h <;> simp [tableOf, h], rfl, rfl⟩)
    (off_eq2 (a := 1024 * k.val + 128 * 5 + 128) (k0_off7_eq k 5) ⟨by dsimp only; omega, rfl⟩) (off_eq2 (a := 1024 * k.val + 128 * 6) (k0_off13_eq k 6) ⟨by dsimp only; omega, rfl⟩) rfl rfl
    (k0_off11_inb k 5) (k0_off8_inb k 5) (k0_off7_inb k 5) (k0_off13_inb k 6) inb_S8_S1_2 inb_S8_S1_6 (by decide) y) ?_
  refine View.allAt_cons_unit _ _ _ _ _ (tile ⟨8 * k.val + 6, by omega⟩ 1 (k0_off15 k 6#32) (k0_off10 k 5#32) (k0_off8 k 5#32) (k0_off7 k 5#32) (k0_off13 k 6#32) ![1] ![5]
    (off_eq3 (b := 1024 * k.val + 128 * 6) (c := 128) (k0_off15_eq k 6) ⟨rfl, by dsimp only; omega, rfl⟩) (off_eq3 (b := 1024 * k.val + 128 * 5 + 128) (c := 128) (k0_off10_eq k 5) ⟨rfl, by dsimp only; omega, rfl⟩)
    (off_eq3 (a := if 8 * k.val + 5 + 1 = 15 then 2 else 1) (k0_off8_eq k 5) ⟨by rcases hk2 with h | h <;> simp [tableOf, h], rfl, rfl⟩)
    (off_eq2 (a := 1024 * k.val + 128 * 5 + 128) (k0_off7_eq k 5) ⟨by dsimp only; omega, rfl⟩) (off_eq2 (a := 1024 * k.val + 128 * 6) (k0_off13_eq k 6) ⟨by dsimp only; omega, rfl⟩) rfl rfl
    (k0_off10_inb k 5) (k0_off8_inb k 5) (k0_off7_inb k 5) (k0_off13_inb k 6) inb_S8_S1_1 inb_S8_S1_5 (by decide) y) ?_
  refine View.allAt_cons_unit _ _ _ _ _ (tile ⟨8 * k.val + 6, by omega⟩ 0 (k0_off14 k 6#32) (k0_off9 k 5#32) (k0_off8 k 5#32) (k0_off7 k 5#32) (k0_off13 k 6#32) ![0] ![4]
    (off_eq3 (b := 1024 * k.val + 128 * 6) (c := 0) (k0_off14_eq k 6) ⟨rfl, by dsimp only; omega, rfl⟩) (off_eq3 (b := 1024 * k.val + 128 * 5 + 128) (c := 0) (k0_off9_eq k 5) ⟨rfl, by dsimp only; omega, rfl⟩)
    (off_eq3 (a := if 8 * k.val + 5 + 1 = 15 then 2 else 1) (k0_off8_eq k 5) ⟨by rcases hk2 with h | h <;> simp [tableOf, h], rfl, rfl⟩)
    (off_eq2 (a := 1024 * k.val + 128 * 5 + 128) (k0_off7_eq k 5) ⟨by dsimp only; omega, rfl⟩) (off_eq2 (a := 1024 * k.val + 128 * 6) (k0_off13_eq k 6) ⟨by dsimp only; omega, rfl⟩) rfl rfl
    (k0_off9_inb k 5) (k0_off8_inb k 5) (k0_off7_inb k 5) (k0_off13_inb k 6) inb_S8_S1_0 inb_S8_S1_4 (by decide) y) ?_
  refine View.allAt_cons_unit _ _ _ _ _ (tile ⟨8 * k.val + 5, by omega⟩ 3 (k0_off17 k 5#32) (k0_off12 k 4#32) (k0_off8 k 4#32) (k0_off7 k 4#32) (k0_off13 k 5#32) ![3] ![7]
    (off_eq3 (b := 1024 * k.val + 128 * 5) (c := 384) (k0_off17_eq k 5) ⟨rfl, by dsimp only; omega, rfl⟩) (off_eq3 (b := 1024 * k.val + 128 * 4 + 128) (c := 384) (k0_off12_eq k 4) ⟨rfl, by dsimp only; omega, rfl⟩)
    (off_eq3 (a := if 8 * k.val + 4 + 1 = 15 then 2 else 1) (k0_off8_eq k 4) ⟨by rcases hk2 with h | h <;> simp [tableOf, h], rfl, rfl⟩)
    (off_eq2 (a := 1024 * k.val + 128 * 4 + 128) (k0_off7_eq k 4) ⟨by dsimp only; omega, rfl⟩) (off_eq2 (a := 1024 * k.val + 128 * 5) (k0_off13_eq k 5) ⟨by dsimp only; omega, rfl⟩) rfl rfl
    (k0_off12_inb k 4) (k0_off8_inb k 4) (k0_off7_inb k 4) (k0_off13_inb k 5) inb_S8_S1_3 inb_S8_S1_7 (by decide) y) ?_
  refine View.allAt_cons_unit _ _ _ _ _ (tile ⟨8 * k.val + 5, by omega⟩ 2 (k0_off16 k 5#32) (k0_off11 k 4#32) (k0_off8 k 4#32) (k0_off7 k 4#32) (k0_off13 k 5#32) ![2] ![6]
    (off_eq3 (b := 1024 * k.val + 128 * 5) (c := 256) (k0_off16_eq k 5) ⟨rfl, by dsimp only; omega, rfl⟩) (off_eq3 (b := 1024 * k.val + 128 * 4 + 128) (c := 256) (k0_off11_eq k 4) ⟨rfl, by dsimp only; omega, rfl⟩)
    (off_eq3 (a := if 8 * k.val + 4 + 1 = 15 then 2 else 1) (k0_off8_eq k 4) ⟨by rcases hk2 with h | h <;> simp [tableOf, h], rfl, rfl⟩)
    (off_eq2 (a := 1024 * k.val + 128 * 4 + 128) (k0_off7_eq k 4) ⟨by dsimp only; omega, rfl⟩) (off_eq2 (a := 1024 * k.val + 128 * 5) (k0_off13_eq k 5) ⟨by dsimp only; omega, rfl⟩) rfl rfl
    (k0_off11_inb k 4) (k0_off8_inb k 4) (k0_off7_inb k 4) (k0_off13_inb k 5) inb_S8_S1_2 inb_S8_S1_6 (by decide) y) ?_
  refine View.allAt_cons_unit _ _ _ _ _ (tile ⟨8 * k.val + 5, by omega⟩ 1 (k0_off15 k 5#32) (k0_off10 k 4#32) (k0_off8 k 4#32) (k0_off7 k 4#32) (k0_off13 k 5#32) ![1] ![5]
    (off_eq3 (b := 1024 * k.val + 128 * 5) (c := 128) (k0_off15_eq k 5) ⟨rfl, by dsimp only; omega, rfl⟩) (off_eq3 (b := 1024 * k.val + 128 * 4 + 128) (c := 128) (k0_off10_eq k 4) ⟨rfl, by dsimp only; omega, rfl⟩)
    (off_eq3 (a := if 8 * k.val + 4 + 1 = 15 then 2 else 1) (k0_off8_eq k 4) ⟨by rcases hk2 with h | h <;> simp [tableOf, h], rfl, rfl⟩)
    (off_eq2 (a := 1024 * k.val + 128 * 4 + 128) (k0_off7_eq k 4) ⟨by dsimp only; omega, rfl⟩) (off_eq2 (a := 1024 * k.val + 128 * 5) (k0_off13_eq k 5) ⟨by dsimp only; omega, rfl⟩) rfl rfl
    (k0_off10_inb k 4) (k0_off8_inb k 4) (k0_off7_inb k 4) (k0_off13_inb k 5) inb_S8_S1_1 inb_S8_S1_5 (by decide) y) ?_
  refine View.allAt_cons_unit _ _ _ _ _ (tile ⟨8 * k.val + 5, by omega⟩ 0 (k0_off14 k 5#32) (k0_off9 k 4#32) (k0_off8 k 4#32) (k0_off7 k 4#32) (k0_off13 k 5#32) ![0] ![4]
    (off_eq3 (b := 1024 * k.val + 128 * 5) (c := 0) (k0_off14_eq k 5) ⟨rfl, by dsimp only; omega, rfl⟩) (off_eq3 (b := 1024 * k.val + 128 * 4 + 128) (c := 0) (k0_off9_eq k 4) ⟨rfl, by dsimp only; omega, rfl⟩)
    (off_eq3 (a := if 8 * k.val + 4 + 1 = 15 then 2 else 1) (k0_off8_eq k 4) ⟨by rcases hk2 with h | h <;> simp [tableOf, h], rfl, rfl⟩)
    (off_eq2 (a := 1024 * k.val + 128 * 4 + 128) (k0_off7_eq k 4) ⟨by dsimp only; omega, rfl⟩) (off_eq2 (a := 1024 * k.val + 128 * 5) (k0_off13_eq k 5) ⟨by dsimp only; omega, rfl⟩) rfl rfl
    (k0_off9_inb k 4) (k0_off8_inb k 4) (k0_off7_inb k 4) (k0_off13_inb k 5) inb_S8_S1_0 inb_S8_S1_4 (by decide) y) ?_
  refine View.allAt_cons_unit _ _ _ _ _ (tile ⟨8 * k.val + 4, by omega⟩ 3 (k0_off17 k 4#32) (k0_off12 k 3#32) (k0_off8 k 3#32) (k0_off7 k 3#32) (k0_off13 k 4#32) ![3] ![7]
    (off_eq3 (b := 1024 * k.val + 128 * 4) (c := 384) (k0_off17_eq k 4) ⟨rfl, by dsimp only; omega, rfl⟩) (off_eq3 (b := 1024 * k.val + 128 * 3 + 128) (c := 384) (k0_off12_eq k 3) ⟨rfl, by dsimp only; omega, rfl⟩)
    (off_eq3 (a := if 8 * k.val + 3 + 1 = 15 then 2 else 1) (k0_off8_eq k 3) ⟨by rcases hk2 with h | h <;> simp [tableOf, h], rfl, rfl⟩)
    (off_eq2 (a := 1024 * k.val + 128 * 3 + 128) (k0_off7_eq k 3) ⟨by dsimp only; omega, rfl⟩) (off_eq2 (a := 1024 * k.val + 128 * 4) (k0_off13_eq k 4) ⟨by dsimp only; omega, rfl⟩) rfl rfl
    (k0_off12_inb k 3) (k0_off8_inb k 3) (k0_off7_inb k 3) (k0_off13_inb k 4) inb_S8_S1_3 inb_S8_S1_7 (by decide) y) ?_
  refine View.allAt_cons_unit _ _ _ _ _ (tile ⟨8 * k.val + 4, by omega⟩ 2 (k0_off16 k 4#32) (k0_off11 k 3#32) (k0_off8 k 3#32) (k0_off7 k 3#32) (k0_off13 k 4#32) ![2] ![6]
    (off_eq3 (b := 1024 * k.val + 128 * 4) (c := 256) (k0_off16_eq k 4) ⟨rfl, by dsimp only; omega, rfl⟩) (off_eq3 (b := 1024 * k.val + 128 * 3 + 128) (c := 256) (k0_off11_eq k 3) ⟨rfl, by dsimp only; omega, rfl⟩)
    (off_eq3 (a := if 8 * k.val + 3 + 1 = 15 then 2 else 1) (k0_off8_eq k 3) ⟨by rcases hk2 with h | h <;> simp [tableOf, h], rfl, rfl⟩)
    (off_eq2 (a := 1024 * k.val + 128 * 3 + 128) (k0_off7_eq k 3) ⟨by dsimp only; omega, rfl⟩) (off_eq2 (a := 1024 * k.val + 128 * 4) (k0_off13_eq k 4) ⟨by dsimp only; omega, rfl⟩) rfl rfl
    (k0_off11_inb k 3) (k0_off8_inb k 3) (k0_off7_inb k 3) (k0_off13_inb k 4) inb_S8_S1_2 inb_S8_S1_6 (by decide) y) ?_
  refine View.allAt_cons_unit _ _ _ _ _ (tile ⟨8 * k.val + 4, by omega⟩ 1 (k0_off15 k 4#32) (k0_off10 k 3#32) (k0_off8 k 3#32) (k0_off7 k 3#32) (k0_off13 k 4#32) ![1] ![5]
    (off_eq3 (b := 1024 * k.val + 128 * 4) (c := 128) (k0_off15_eq k 4) ⟨rfl, by dsimp only; omega, rfl⟩) (off_eq3 (b := 1024 * k.val + 128 * 3 + 128) (c := 128) (k0_off10_eq k 3) ⟨rfl, by dsimp only; omega, rfl⟩)
    (off_eq3 (a := if 8 * k.val + 3 + 1 = 15 then 2 else 1) (k0_off8_eq k 3) ⟨by rcases hk2 with h | h <;> simp [tableOf, h], rfl, rfl⟩)
    (off_eq2 (a := 1024 * k.val + 128 * 3 + 128) (k0_off7_eq k 3) ⟨by dsimp only; omega, rfl⟩) (off_eq2 (a := 1024 * k.val + 128 * 4) (k0_off13_eq k 4) ⟨by dsimp only; omega, rfl⟩) rfl rfl
    (k0_off10_inb k 3) (k0_off8_inb k 3) (k0_off7_inb k 3) (k0_off13_inb k 4) inb_S8_S1_1 inb_S8_S1_5 (by decide) y) ?_
  refine View.allAt_cons_unit _ _ _ _ _ (tile ⟨8 * k.val + 4, by omega⟩ 0 (k0_off14 k 4#32) (k0_off9 k 3#32) (k0_off8 k 3#32) (k0_off7 k 3#32) (k0_off13 k 4#32) ![0] ![4]
    (off_eq3 (b := 1024 * k.val + 128 * 4) (c := 0) (k0_off14_eq k 4) ⟨rfl, by dsimp only; omega, rfl⟩) (off_eq3 (b := 1024 * k.val + 128 * 3 + 128) (c := 0) (k0_off9_eq k 3) ⟨rfl, by dsimp only; omega, rfl⟩)
    (off_eq3 (a := if 8 * k.val + 3 + 1 = 15 then 2 else 1) (k0_off8_eq k 3) ⟨by rcases hk2 with h | h <;> simp [tableOf, h], rfl, rfl⟩)
    (off_eq2 (a := 1024 * k.val + 128 * 3 + 128) (k0_off7_eq k 3) ⟨by dsimp only; omega, rfl⟩) (off_eq2 (a := 1024 * k.val + 128 * 4) (k0_off13_eq k 4) ⟨by dsimp only; omega, rfl⟩) rfl rfl
    (k0_off9_inb k 3) (k0_off8_inb k 3) (k0_off7_inb k 3) (k0_off13_inb k 4) inb_S8_S1_0 inb_S8_S1_4 (by decide) y) ?_
  refine View.allAt_cons_unit _ _ _ _ _ (tile ⟨8 * k.val + 3, by omega⟩ 3 (k0_off17 k 3#32) (k0_off12 k 2#32) (k0_off8 k 2#32) (k0_off7 k 2#32) (k0_off13 k 3#32) ![3] ![7]
    (off_eq3 (b := 1024 * k.val + 128 * 3) (c := 384) (k0_off17_eq k 3) ⟨rfl, by dsimp only; omega, rfl⟩) (off_eq3 (b := 1024 * k.val + 128 * 2 + 128) (c := 384) (k0_off12_eq k 2) ⟨rfl, by dsimp only; omega, rfl⟩)
    (off_eq3 (a := if 8 * k.val + 2 + 1 = 15 then 2 else 1) (k0_off8_eq k 2) ⟨by rcases hk2 with h | h <;> simp [tableOf, h], rfl, rfl⟩)
    (off_eq2 (a := 1024 * k.val + 128 * 2 + 128) (k0_off7_eq k 2) ⟨by dsimp only; omega, rfl⟩) (off_eq2 (a := 1024 * k.val + 128 * 3) (k0_off13_eq k 3) ⟨by dsimp only; omega, rfl⟩) rfl rfl
    (k0_off12_inb k 2) (k0_off8_inb k 2) (k0_off7_inb k 2) (k0_off13_inb k 3) inb_S8_S1_3 inb_S8_S1_7 (by decide) y) ?_
  refine View.allAt_cons_unit _ _ _ _ _ (tile ⟨8 * k.val + 3, by omega⟩ 2 (k0_off16 k 3#32) (k0_off11 k 2#32) (k0_off8 k 2#32) (k0_off7 k 2#32) (k0_off13 k 3#32) ![2] ![6]
    (off_eq3 (b := 1024 * k.val + 128 * 3) (c := 256) (k0_off16_eq k 3) ⟨rfl, by dsimp only; omega, rfl⟩) (off_eq3 (b := 1024 * k.val + 128 * 2 + 128) (c := 256) (k0_off11_eq k 2) ⟨rfl, by dsimp only; omega, rfl⟩)
    (off_eq3 (a := if 8 * k.val + 2 + 1 = 15 then 2 else 1) (k0_off8_eq k 2) ⟨by rcases hk2 with h | h <;> simp [tableOf, h], rfl, rfl⟩)
    (off_eq2 (a := 1024 * k.val + 128 * 2 + 128) (k0_off7_eq k 2) ⟨by dsimp only; omega, rfl⟩) (off_eq2 (a := 1024 * k.val + 128 * 3) (k0_off13_eq k 3) ⟨by dsimp only; omega, rfl⟩) rfl rfl
    (k0_off11_inb k 2) (k0_off8_inb k 2) (k0_off7_inb k 2) (k0_off13_inb k 3) inb_S8_S1_2 inb_S8_S1_6 (by decide) y) ?_
  refine View.allAt_cons_unit _ _ _ _ _ (tile ⟨8 * k.val + 3, by omega⟩ 1 (k0_off15 k 3#32) (k0_off10 k 2#32) (k0_off8 k 2#32) (k0_off7 k 2#32) (k0_off13 k 3#32) ![1] ![5]
    (off_eq3 (b := 1024 * k.val + 128 * 3) (c := 128) (k0_off15_eq k 3) ⟨rfl, by dsimp only; omega, rfl⟩) (off_eq3 (b := 1024 * k.val + 128 * 2 + 128) (c := 128) (k0_off10_eq k 2) ⟨rfl, by dsimp only; omega, rfl⟩)
    (off_eq3 (a := if 8 * k.val + 2 + 1 = 15 then 2 else 1) (k0_off8_eq k 2) ⟨by rcases hk2 with h | h <;> simp [tableOf, h], rfl, rfl⟩)
    (off_eq2 (a := 1024 * k.val + 128 * 2 + 128) (k0_off7_eq k 2) ⟨by dsimp only; omega, rfl⟩) (off_eq2 (a := 1024 * k.val + 128 * 3) (k0_off13_eq k 3) ⟨by dsimp only; omega, rfl⟩) rfl rfl
    (k0_off10_inb k 2) (k0_off8_inb k 2) (k0_off7_inb k 2) (k0_off13_inb k 3) inb_S8_S1_1 inb_S8_S1_5 (by decide) y) ?_
  refine View.allAt_cons_unit _ _ _ _ _ (tile ⟨8 * k.val + 3, by omega⟩ 0 (k0_off14 k 3#32) (k0_off9 k 2#32) (k0_off8 k 2#32) (k0_off7 k 2#32) (k0_off13 k 3#32) ![0] ![4]
    (off_eq3 (b := 1024 * k.val + 128 * 3) (c := 0) (k0_off14_eq k 3) ⟨rfl, by dsimp only; omega, rfl⟩) (off_eq3 (b := 1024 * k.val + 128 * 2 + 128) (c := 0) (k0_off9_eq k 2) ⟨rfl, by dsimp only; omega, rfl⟩)
    (off_eq3 (a := if 8 * k.val + 2 + 1 = 15 then 2 else 1) (k0_off8_eq k 2) ⟨by rcases hk2 with h | h <;> simp [tableOf, h], rfl, rfl⟩)
    (off_eq2 (a := 1024 * k.val + 128 * 2 + 128) (k0_off7_eq k 2) ⟨by dsimp only; omega, rfl⟩) (off_eq2 (a := 1024 * k.val + 128 * 3) (k0_off13_eq k 3) ⟨by dsimp only; omega, rfl⟩) rfl rfl
    (k0_off9_inb k 2) (k0_off8_inb k 2) (k0_off7_inb k 2) (k0_off13_inb k 3) inb_S8_S1_0 inb_S8_S1_4 (by decide) y) ?_
  refine View.allAt_cons_unit _ _ _ _ _ (tile ⟨8 * k.val + 2, by omega⟩ 3 (k0_off17 k 2#32) (k0_off12 k 1#32) (k0_off8 k 1#32) (k0_off7 k 1#32) (k0_off13 k 2#32) ![3] ![7]
    (off_eq3 (b := 1024 * k.val + 128 * 2) (c := 384) (k0_off17_eq k 2) ⟨rfl, by dsimp only; omega, rfl⟩) (off_eq3 (b := 1024 * k.val + 128 * 1 + 128) (c := 384) (k0_off12_eq k 1) ⟨rfl, by dsimp only; omega, rfl⟩)
    (off_eq3 (a := if 8 * k.val + 1 + 1 = 15 then 2 else 1) (k0_off8_eq k 1) ⟨by rcases hk2 with h | h <;> simp [tableOf, h], rfl, rfl⟩)
    (off_eq2 (a := 1024 * k.val + 128 * 1 + 128) (k0_off7_eq k 1) ⟨by dsimp only; omega, rfl⟩) (off_eq2 (a := 1024 * k.val + 128 * 2) (k0_off13_eq k 2) ⟨by dsimp only; omega, rfl⟩) rfl rfl
    (k0_off12_inb k 1) (k0_off8_inb k 1) (k0_off7_inb k 1) (k0_off13_inb k 2) inb_S8_S1_3 inb_S8_S1_7 (by decide) y) ?_
  refine View.allAt_cons_unit _ _ _ _ _ (tile ⟨8 * k.val + 2, by omega⟩ 2 (k0_off16 k 2#32) (k0_off11 k 1#32) (k0_off8 k 1#32) (k0_off7 k 1#32) (k0_off13 k 2#32) ![2] ![6]
    (off_eq3 (b := 1024 * k.val + 128 * 2) (c := 256) (k0_off16_eq k 2) ⟨rfl, by dsimp only; omega, rfl⟩) (off_eq3 (b := 1024 * k.val + 128 * 1 + 128) (c := 256) (k0_off11_eq k 1) ⟨rfl, by dsimp only; omega, rfl⟩)
    (off_eq3 (a := if 8 * k.val + 1 + 1 = 15 then 2 else 1) (k0_off8_eq k 1) ⟨by rcases hk2 with h | h <;> simp [tableOf, h], rfl, rfl⟩)
    (off_eq2 (a := 1024 * k.val + 128 * 1 + 128) (k0_off7_eq k 1) ⟨by dsimp only; omega, rfl⟩) (off_eq2 (a := 1024 * k.val + 128 * 2) (k0_off13_eq k 2) ⟨by dsimp only; omega, rfl⟩) rfl rfl
    (k0_off11_inb k 1) (k0_off8_inb k 1) (k0_off7_inb k 1) (k0_off13_inb k 2) inb_S8_S1_2 inb_S8_S1_6 (by decide) y) ?_
  refine View.allAt_cons_unit _ _ _ _ _ (tile ⟨8 * k.val + 2, by omega⟩ 1 (k0_off15 k 2#32) (k0_off10 k 1#32) (k0_off8 k 1#32) (k0_off7 k 1#32) (k0_off13 k 2#32) ![1] ![5]
    (off_eq3 (b := 1024 * k.val + 128 * 2) (c := 128) (k0_off15_eq k 2) ⟨rfl, by dsimp only; omega, rfl⟩) (off_eq3 (b := 1024 * k.val + 128 * 1 + 128) (c := 128) (k0_off10_eq k 1) ⟨rfl, by dsimp only; omega, rfl⟩)
    (off_eq3 (a := if 8 * k.val + 1 + 1 = 15 then 2 else 1) (k0_off8_eq k 1) ⟨by rcases hk2 with h | h <;> simp [tableOf, h], rfl, rfl⟩)
    (off_eq2 (a := 1024 * k.val + 128 * 1 + 128) (k0_off7_eq k 1) ⟨by dsimp only; omega, rfl⟩) (off_eq2 (a := 1024 * k.val + 128 * 2) (k0_off13_eq k 2) ⟨by dsimp only; omega, rfl⟩) rfl rfl
    (k0_off10_inb k 1) (k0_off8_inb k 1) (k0_off7_inb k 1) (k0_off13_inb k 2) inb_S8_S1_1 inb_S8_S1_5 (by decide) y) ?_
  refine View.allAt_cons_unit _ _ _ _ _ (tile ⟨8 * k.val + 2, by omega⟩ 0 (k0_off14 k 2#32) (k0_off9 k 1#32) (k0_off8 k 1#32) (k0_off7 k 1#32) (k0_off13 k 2#32) ![0] ![4]
    (off_eq3 (b := 1024 * k.val + 128 * 2) (c := 0) (k0_off14_eq k 2) ⟨rfl, by dsimp only; omega, rfl⟩) (off_eq3 (b := 1024 * k.val + 128 * 1 + 128) (c := 0) (k0_off9_eq k 1) ⟨rfl, by dsimp only; omega, rfl⟩)
    (off_eq3 (a := if 8 * k.val + 1 + 1 = 15 then 2 else 1) (k0_off8_eq k 1) ⟨by rcases hk2 with h | h <;> simp [tableOf, h], rfl, rfl⟩)
    (off_eq2 (a := 1024 * k.val + 128 * 1 + 128) (k0_off7_eq k 1) ⟨by dsimp only; omega, rfl⟩) (off_eq2 (a := 1024 * k.val + 128 * 2) (k0_off13_eq k 2) ⟨by dsimp only; omega, rfl⟩) rfl rfl
    (k0_off9_inb k 1) (k0_off8_inb k 1) (k0_off7_inb k 1) (k0_off13_inb k 2) inb_S8_S1_0 inb_S8_S1_4 (by decide) y) ?_
  refine View.allAt_cons_unit _ _ _ _ _ (tile ⟨8 * k.val + 1, by omega⟩ 3 (k0_off17 k 1#32) (k0_off12 k 0#32) (k0_off8 k 0#32) (k0_off7 k 0#32) (k0_off13 k 1#32) ![3] ![7]
    (off_eq3 (b := 1024 * k.val + 128 * 1) (c := 384) (k0_off17_eq k 1) ⟨rfl, by dsimp only; omega, rfl⟩) (off_eq3 (b := 1024 * k.val + 128 * 0 + 128) (c := 384) (k0_off12_eq k 0) ⟨rfl, by dsimp only; omega, rfl⟩)
    (off_eq3 (a := if 8 * k.val + 0 + 1 = 15 then 2 else 1) (k0_off8_eq k 0) ⟨by rcases hk2 with h | h <;> simp [tableOf, h], rfl, rfl⟩)
    (off_eq2 (a := 1024 * k.val + 128 * 0 + 128) (k0_off7_eq k 0) ⟨by dsimp only; omega, rfl⟩) (off_eq2 (a := 1024 * k.val + 128 * 1) (k0_off13_eq k 1) ⟨by dsimp only; omega, rfl⟩) rfl rfl
    (k0_off12_inb k 0) (k0_off8_inb k 0) (k0_off7_inb k 0) (k0_off13_inb k 1) inb_S8_S1_3 inb_S8_S1_7 (by decide) y) ?_
  refine View.allAt_cons_unit _ _ _ _ _ (tile ⟨8 * k.val + 1, by omega⟩ 2 (k0_off16 k 1#32) (k0_off11 k 0#32) (k0_off8 k 0#32) (k0_off7 k 0#32) (k0_off13 k 1#32) ![2] ![6]
    (off_eq3 (b := 1024 * k.val + 128 * 1) (c := 256) (k0_off16_eq k 1) ⟨rfl, by dsimp only; omega, rfl⟩) (off_eq3 (b := 1024 * k.val + 128 * 0 + 128) (c := 256) (k0_off11_eq k 0) ⟨rfl, by dsimp only; omega, rfl⟩)
    (off_eq3 (a := if 8 * k.val + 0 + 1 = 15 then 2 else 1) (k0_off8_eq k 0) ⟨by rcases hk2 with h | h <;> simp [tableOf, h], rfl, rfl⟩)
    (off_eq2 (a := 1024 * k.val + 128 * 0 + 128) (k0_off7_eq k 0) ⟨by dsimp only; omega, rfl⟩) (off_eq2 (a := 1024 * k.val + 128 * 1) (k0_off13_eq k 1) ⟨by dsimp only; omega, rfl⟩) rfl rfl
    (k0_off11_inb k 0) (k0_off8_inb k 0) (k0_off7_inb k 0) (k0_off13_inb k 1) inb_S8_S1_2 inb_S8_S1_6 (by decide) y) ?_
  refine View.allAt_cons_unit _ _ _ _ _ (tile ⟨8 * k.val + 1, by omega⟩ 1 (k0_off15 k 1#32) (k0_off10 k 0#32) (k0_off8 k 0#32) (k0_off7 k 0#32) (k0_off13 k 1#32) ![1] ![5]
    (off_eq3 (b := 1024 * k.val + 128 * 1) (c := 128) (k0_off15_eq k 1) ⟨rfl, by dsimp only; omega, rfl⟩) (off_eq3 (b := 1024 * k.val + 128 * 0 + 128) (c := 128) (k0_off10_eq k 0) ⟨rfl, by dsimp only; omega, rfl⟩)
    (off_eq3 (a := if 8 * k.val + 0 + 1 = 15 then 2 else 1) (k0_off8_eq k 0) ⟨by rcases hk2 with h | h <;> simp [tableOf, h], rfl, rfl⟩)
    (off_eq2 (a := 1024 * k.val + 128 * 0 + 128) (k0_off7_eq k 0) ⟨by dsimp only; omega, rfl⟩) (off_eq2 (a := 1024 * k.val + 128 * 1) (k0_off13_eq k 1) ⟨by dsimp only; omega, rfl⟩) rfl rfl
    (k0_off10_inb k 0) (k0_off8_inb k 0) (k0_off7_inb k 0) (k0_off13_inb k 1) inb_S8_S1_1 inb_S8_S1_5 (by decide) y) ?_
  refine View.allAt_cons_unit _ _ _ _ _ (tile ⟨8 * k.val + 1, by omega⟩ 0 (k0_off14 k 1#32) (k0_off9 k 0#32) (k0_off8 k 0#32) (k0_off7 k 0#32) (k0_off13 k 1#32) ![0] ![4]
    (off_eq3 (b := 1024 * k.val + 128 * 1) (c := 0) (k0_off14_eq k 1) ⟨rfl, by dsimp only; omega, rfl⟩) (off_eq3 (b := 1024 * k.val + 128 * 0 + 128) (c := 0) (k0_off9_eq k 0) ⟨rfl, by dsimp only; omega, rfl⟩)
    (off_eq3 (a := if 8 * k.val + 0 + 1 = 15 then 2 else 1) (k0_off8_eq k 0) ⟨by rcases hk2 with h | h <;> simp [tableOf, h], rfl, rfl⟩)
    (off_eq2 (a := 1024 * k.val + 128 * 0 + 128) (k0_off7_eq k 0) ⟨by dsimp only; omega, rfl⟩) (off_eq2 (a := 1024 * k.val + 128 * 1) (k0_off13_eq k 1) ⟨by dsimp only; omega, rfl⟩) rfl rfl
    (k0_off9_inb k 0) (k0_off8_inb k 0) (k0_off7_inb k 0) (k0_off13_inb k 1) inb_S8_S1_0 inb_S8_S1_4 (by decide) y) ?_
  refine View.allAt_cons_unit _ _ _ _ _ (tile ⟨8 * k.val + 0, by omega⟩ 3 (k0_off17 k 0#32) (k0_off6 k) (k0_off2 k) (k0_off1 k) (k0_off13 k 0#32) ![3] ![7]
    (off_eq3 (b := 1024 * k.val + 128 * 0) (c := 384) (k0_off17_eq k 0) ⟨rfl, by dsimp only; omega, rfl⟩) (off_eq3 (b := 1024 * k.val) (c := 384) (k0_off6_eq k) ⟨rfl, by dsimp only; omega, rfl⟩)
    (off_eq3 (a := if 8 * k.val = 0 then 0 else 1) (k0_off2_eq k) ⟨by rcases hk2 with h | h <;> simp [tableOf, h], rfl, rfl⟩)
    (off_eq2 (a := 1024 * k.val) (k0_off1_eq k) ⟨by dsimp only; omega, rfl⟩) (off_eq2 (a := 1024 * k.val + 128 * 0) (k0_off13_eq k 0) ⟨by dsimp only; omega, rfl⟩) rfl rfl
    (k0_off6_inb k) (k0_off2_inb k) (k0_off1_inb k) (k0_off13_inb k 0) inb_S8_S1_3 inb_S8_S1_7 (by decide) y) ?_
  refine View.allAt_cons_unit _ _ _ _ _ (tile ⟨8 * k.val + 0, by omega⟩ 2 (k0_off16 k 0#32) (k0_off5 k) (k0_off2 k) (k0_off1 k) (k0_off13 k 0#32) ![2] ![6]
    (off_eq3 (b := 1024 * k.val + 128 * 0) (c := 256) (k0_off16_eq k 0) ⟨rfl, by dsimp only; omega, rfl⟩) (off_eq3 (b := 1024 * k.val) (c := 256) (k0_off5_eq k) ⟨rfl, by dsimp only; omega, rfl⟩)
    (off_eq3 (a := if 8 * k.val = 0 then 0 else 1) (k0_off2_eq k) ⟨by rcases hk2 with h | h <;> simp [tableOf, h], rfl, rfl⟩)
    (off_eq2 (a := 1024 * k.val) (k0_off1_eq k) ⟨by dsimp only; omega, rfl⟩) (off_eq2 (a := 1024 * k.val + 128 * 0) (k0_off13_eq k 0) ⟨by dsimp only; omega, rfl⟩) rfl rfl
    (k0_off5_inb k) (k0_off2_inb k) (k0_off1_inb k) (k0_off13_inb k 0) inb_S8_S1_2 inb_S8_S1_6 (by decide) y) ?_
  refine View.allAt_cons_unit _ _ _ _ _ (tile ⟨8 * k.val + 0, by omega⟩ 1 (k0_off15 k 0#32) (k0_off4 k) (k0_off2 k) (k0_off1 k) (k0_off13 k 0#32) ![1] ![5]
    (off_eq3 (b := 1024 * k.val + 128 * 0) (c := 128) (k0_off15_eq k 0) ⟨rfl, by dsimp only; omega, rfl⟩) (off_eq3 (b := 1024 * k.val) (c := 128) (k0_off4_eq k) ⟨rfl, by dsimp only; omega, rfl⟩)
    (off_eq3 (a := if 8 * k.val = 0 then 0 else 1) (k0_off2_eq k) ⟨by rcases hk2 with h | h <;> simp [tableOf, h], rfl, rfl⟩)
    (off_eq2 (a := 1024 * k.val) (k0_off1_eq k) ⟨by dsimp only; omega, rfl⟩) (off_eq2 (a := 1024 * k.val + 128 * 0) (k0_off13_eq k 0) ⟨by dsimp only; omega, rfl⟩) rfl rfl
    (k0_off4_inb k) (k0_off2_inb k) (k0_off1_inb k) (k0_off13_inb k 0) inb_S8_S1_1 inb_S8_S1_5 (by decide) y) ?_
  refine View.allAt_cons_unit _ _ _ _ _ (tile ⟨8 * k.val + 0, by omega⟩ 0 (k0_off14 k 0#32) (k0_off3 k) (k0_off2 k) (k0_off1 k) (k0_off13 k 0#32) ![0] ![4]
    (off_eq3 (b := 1024 * k.val + 128 * 0) (c := 0) (k0_off14_eq k 0) ⟨rfl, by dsimp only; omega, rfl⟩) (off_eq3 (b := 1024 * k.val) (c := 0) (k0_off3_eq k) ⟨rfl, by dsimp only; omega, rfl⟩)
    (off_eq3 (a := if 8 * k.val = 0 then 0 else 1) (k0_off2_eq k) ⟨by rcases hk2 with h | h <;> simp [tableOf, h], rfl, rfl⟩)
    (off_eq2 (a := 1024 * k.val) (k0_off1_eq k) ⟨by dsimp only; omega, rfl⟩) (off_eq2 (a := 1024 * k.val + 128 * 0) (k0_off13_eq k 0) ⟨by dsimp only; omega, rfl⟩) rfl rfl
    (k0_off3_inb k) (k0_off2_inb k) (k0_off1_inb k) (k0_off13_inb k 0) inb_S8_S1_0 inb_S8_S1_4 (by decide) y) ?_
  exact View.allAt_nil _ _

end Cert.AttnIdeal.Value
end
-- ==== Proof.AttnBlock.lean ====
/- What the attention kernel leaves in its block of results at a point. -/
module

public import proofs.«01_k».proof.Proof.AttnTrip
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)
variable (c : Dev nD) (i : grid0.Coords)
  (arg1 : Memref sig .tc .smem S8 .f32) (harg1 : arg1.IsWhole) (arg2 : Memref sig .tc .vmem S1x2048x512 .bf16) (harg2 : arg2.IsWhole)
  (arg3 : Memref sig .tc .vmem S1x2048x128 .bf16) (harg3 : arg3.IsWhole) (arg4 : Memref sig .tc .vmem S1x2048x128 .bf16) (harg4 : arg4.IsWhole)
  (arg5 : Memref sig .tc .vmem S1x256x128 .bf16) (harg5 : arg5.IsWhole) (arg6 : Memref sig .tc .vmem S1x256x128 .bf16) (harg6 : arg6.IsWhole)
  (arg7 : Memref sig .tc .vmem S3x128x384 .f32) (harg7 : arg7.IsWhole) (arg8 : Memref sig .tc .vmem S1x2048x512 .bf16) (harg8 : arg8.IsWhole)
  (arg9 : Memref sig .tc .vmem S2304x128 .bf16) (harg9 : arg9.IsWhole) (arg10 : Memref sig .tc .vmem S2304x128 .bf16) (harg10 : arg10.IsWhole)
  (arg11 : Memref sig .tc .vmem S2304x128 .bf16) (harg11 : arg11.IsWhole)
  (v49 v51 : Vec Ideal S1x256x128 .bf16)
  (X1 : BufTy.Contents (Elt Ideal) arg1.view.ty) (X2 : BufTy.Contents (Elt Ideal) arg2.view.ty) (X7 : BufTy.Contents (Elt Ideal) arg7.view.ty)
  (X9 : BufTy.Contents (Elt Ideal) arg9.view.ty) (X10 : BufTy.Contents (Elt Ideal) arg10.view.ty) (X11 : BufTy.Contents (Elt Ideal) arg11.view.ty)

/-- Every store of the kernel's loop holds the attention of its block. -/
theorem trips_at (y : S1x2048x512.Idx) (n : ℕ) (hn : n ≤ k0_t1_loop.trips) :
    View.AllAt (pb_k0_t1 Variants.none c none i arg1 harg1 arg2 harg2 arg3 harg3 arg4 harg4 arg5 harg5 arg6 harg6 arg7 harg7 arg8 harg8
      arg9 harg9 arg10 harg10 arg11 harg11 k0_pay619 k0_pay620 k0_pay621 v49 v51 X1 X2 X7 X9 X10 X11 n) y
      (attnOut (arg2.view.read (Elt Ideal) X2) (arg7.view.read (Elt Ideal) X7) (arg9.view.read (Elt Ideal) X9)
        (arg10.view.read (Elt Ideal) X10) (arg11.view.read (Elt Ideal) X11) v49 v51 (arg1.view.read (Elt Ideal) X1) y) := by
  induction n with
  | zero => exact View.allAt_nil _ _
  | succ k ih =>
    rw [show k + 1 = (⟨k, hn⟩ : Fin k0_t1_loop.trips).val + 1 from rfl, pb_k0_t1_succ]
    intro p hp
    rcases List.mem_append.1 hp with hp | hp
    · exact trip_at c i arg1 harg1 arg2 harg2 arg3 harg3 arg4 harg4 arg5 harg5 arg6 harg6 arg7 harg7 arg8 harg8
        arg9 harg9 arg10 harg10 arg11 harg11 v49 v51 X1 X2 X7 X9 X10 X11 ⟨k, hn⟩ y p hp
    · exact ih (Nat.le_of_succ_le hn) p hp

/-- 2048 rows with 128 rows of zeros before and after them. -/
def padRows (x : Fin 2048 → Fin 128 → EReal) : S2304x128.Idx → EReal := fun p =>
  if h : 128 ≤ (p 0).val ∧ (p 0).val < 2176 then x ⟨(p 0).val - 128, by omega⟩ (p 1) else 0

/-- Three stores of rows, the first and the last of zeros, hold the padded rows. -/
theorem three_stores (x : Fin 2048 → Fin 128 → EReal) (w0 w2 : S128x128.Idx → Ideal .bf16) (w1 : S2048x128.Idx → Ideal .bf16)
    (e0 : ∀ r l, w0 (ix2 r l) = (0 : EReal)) (e2 : ∀ r l, w2 (ix2 r l) = (0 : EReal)) (e1 : ∀ r l, w1 (ix2 r l) = x r l) :
    View.canon (Val := Elt Ideal) (s := S2304x128) (e := .bf16) [⟨Rect.unit ![2176, 0] ![128, 128] inb_S2304x128_S128x128_2176_0, w2⟩,
            ⟨Rect.unit ![128, 0] ![2048, 128] inb_S2304x128_S2048x128_128_0, w1⟩,
            ⟨Rect.unit ![0, 0] ![128, 128] inb_S2304x128_S128x128_0_0, w0⟩] = padRows x := by
  funext y
  idx_vars y
  have hl : y1.val < 128 := y1.isLt
  have hcover : ∃ p ∈ ([⟨Rect.unit ![2176, 0] ![128, 128] inb_S2304x128_S128x128_2176_0, w2⟩,
            ⟨Rect.unit ![128, 0] ![2048, 128] inb_S2304x128_S2048x128_128_0, w1⟩,
            ⟨Rect.unit ![0, 0] ![128, 128] inb_S2304x128_S128x128_0_0, w0⟩] : List (View.Piece (Elt Ideal) S2304x128 .bf16)), ix2 y0 y1 ∈ p.1.set := by
    have hy : y0.val < 2304 := y0.isLt
    by_cases ha : y0.val < 128
    · refine ⟨_, List.mem_cons_of_mem _ (List.mem_cons_of_mem _ List.mem_cons_self), ?_⟩
      exact (Rect.mem_set_unit (inb := inb_S2304x128_S128x128_0_0)).2 fun a => by
        match a with
        | 0 => exact ⟨Nat.zero_le _, by show y0.val < 0 + 128; omega⟩
        | 1 => exact ⟨Nat.zero_le _, by show y1.val < 0 + 128; omega⟩
    · by_cases hb : y0.val < 2176
      · refine ⟨_, List.mem_cons_of_mem _ List.mem_cons_self, ?_⟩
        exact (Rect.mem_set_unit (inb := inb_S2304x128_S2048x128_128_0)).2 fun a => by
          match a with
          | 0 => exact ⟨by show 128 ≤ y0.val; omega, by show y0.val < 128 + 2048; omega⟩
          | 1 => exact ⟨Nat.zero_le _, by show y1.val < 0 + 128; omega⟩
      · refine ⟨_, List.mem_cons_self, ?_⟩
        exact (Rect.mem_set_unit (inb := inb_S2304x128_S128x128_2176_0)).2 fun a => by
          match a with
          | 0 => exact ⟨by show 2176 ≤ y0.val; omega, by show y0.val < 2176 + 128; omega⟩
          | 1 => exact ⟨Nat.zero_le _, by show y1.val < 0 + 128; omega⟩
  canon_tiles x' h using hcover
  all_goals idx_vars x'
  · refine (e2 _ _).trans ?_
    unfold padRows
    rw [dif_neg]
    show ¬ (128 ≤ y0.val ∧ y0.val < 2176)
    omega
  · refine (e1 _ _).trans ?_
    unfold padRows
    have hc : 128 ≤ y0.val ∧ y0.val < 2176 := by omega
    refine Eq.trans ?_ (dif_pos hc).symm
    exact congrArg₂ x (Fin.ext (by show x'0.val = y0.val - 128; omega)) (Fin.ext (by show x'1.val = y1.val; omega))
  · refine (e0 _ _).trans ?_
    unfold padRows
    rw [dif_neg]
    show ¬ (128 ≤ y0.val ∧ y0.val < 2176)
    omega

/-- The padded keys. -/
theorem keys_read (x : Vec Ideal S1x2048x128 .bf16) :
    View.canon (Val := Elt Ideal) (s := S2304x128) (e := .bf16) [⟨Rect.unit ![2176, 0] ![128, 128] inb_S2304x128_S128x128_2176_0, k0_pay625 (F := Ideal)⟩,
            ⟨Rect.unit ![128, 0] ![2048, 128] inb_S2304x128_S2048x128_128_0, k0_pay624 x⟩,
            ⟨Rect.unit ![0, 0] ![128, 128] inb_S2304x128_S128x128_0_0, k0_pay623 (F := Ideal)⟩] = padRows fun r l => x (ix3 0 r l) := by
  refine three_stores _ _ _ _ (fun r l => ?_) (fun r l => ?_) (fun r l => ?_)
  all_goals unfold_payloads
  all_goals pointwise

/-- The padded values, with ones in the second half of the lanes. -/
theorem lo_read (x : Vec Ideal S1x2048x128 .bf16) :
    View.canon (Val := Elt Ideal) (s := S2304x128) (e := .bf16) [⟨Rect.unit ![2176, 0] ![128, 128] inb_S2304x128_S128x128_2176_0, k0_pay2 (k0_pay622 (F := Ideal))⟩,
            ⟨Rect.unit ![128, 0] ![2048, 128] inb_S2304x128_S2048x128_128_0, k0_pay1 (k0_pay629 x)⟩,
            ⟨Rect.unit ![0, 0] ![128, 128] inb_S2304x128_S128x128_0_0, k0_pay631 (F := Ideal)⟩]
      = padRows fun r l => if l.val < 64 then x (ix3 0 r l) else 1 := by
  refine three_stores _ _ _ _ (fun r l => ?_) (fun r l => ?_) (fun r l => ?_)
  all_goals unfold_payloads
  all_goals pointwise
  exact lane_lt l _ _

/-- The padded values, with ones in the first half of the lanes. -/
theorem hi_read (x : Vec Ideal S1x2048x128 .bf16) :
    View.canon (Val := Elt Ideal) (s := S2304x128) (e := .bf16) [⟨Rect.unit ![2176, 0] ![128, 128] inb_S2304x128_S128x128_2176_0, k0_pay5 (k0_pay622 (F := Ideal))⟩,
            ⟨Rect.unit ![128, 0] ![2048, 128] inb_S2304x128_S2048x128_128_0, k0_pay4 (k0_pay630 x)⟩,
            ⟨Rect.unit ![0, 0] ![128, 128] inb_S2304x128_S128x128_0_0, k0_pay3 (k0_pay622 (F := Ideal))⟩]
      = padRows fun r l => if l.val < 64 then 1 else x (ix3 0 r l) := by
  refine three_stores _ _ _ _ (fun r l => ?_) (fun r l => ?_) (fun r l => ?_)
  all_goals unfold_payloads
  all_goals pointwise
  exact lane_lt l _ _

/-- The scratch rows of the keys, read back. -/
theorem keys_scratch (x : Vec Ideal S1x2048x128 .bf16) :
    View.read (Elt Ideal) scM0_0.view ((View.whole cc0_scratch0).writes (Elt Ideal) (View.whole cc0_scratch0).junk
      [⟨Rect.unit ![2176, 0] ![128, 128] inb_S2304x128_S128x128_2176_0, k0_pay625 (F := Ideal)⟩,
            ⟨Rect.unit ![128, 0] ![2048, 128] inb_S2304x128_S2048x128_128_0, k0_pay624 x⟩,
            ⟨Rect.unit ![0, 0] ![128, 128] inb_S2304x128_S128x128_0_0, k0_pay623 (F := Ideal)⟩]) = padRows fun r l => x (ix3 0 r l) :=
  (View.read_writes_junk_eq_canon (View.whole cc0_scratch0) _).trans (keys_read x)

/-- The scratch rows of the values, ones in the second half of the lanes, read back. -/
theorem lo_scratch (x : Vec Ideal S1x2048x128 .bf16) :
    View.read (Elt Ideal) scM0_1.view ((View.whole cc0_scratch1).writes (Elt Ideal) (View.whole cc0_scratch1).junk
      [⟨Rect.unit ![2176, 0] ![128, 128] inb_S2304x128_S128x128_2176_0, k0_pay2 (k0_pay622 (F := Ideal))⟩,
            ⟨Rect.unit ![128, 0] ![2048, 128] inb_S2304x128_S2048x128_128_0, k0_pay1 (k0_pay629 x)⟩,
            ⟨Rect.unit ![0, 0] ![128, 128] inb_S2304x128_S128x128_0_0, k0_pay631 (F := Ideal)⟩]) = padRows fun r l => if l.val < 64 then x (ix3 0 r l) else 1 :=
  (View.read_writes_junk_eq_canon (View.whole cc0_scratch1) _).trans (lo_read x)

/-- The scratch rows of the values, ones in the first half of the lanes, read back. -/
theorem hi_scratch (x : Vec Ideal S1x2048x128 .bf16) :
    View.read (Elt Ideal) scM0_2.view ((View.whole cc0_scratch2).writes (Elt Ideal) (View.whole cc0_scratch2).junk
      [⟨Rect.unit ![2176, 0] ![128, 128] inb_S2304x128_S128x128_2176_0, k0_pay5 (k0_pay622 (F := Ideal))⟩,
            ⟨Rect.unit ![128, 0] ![2048, 128] inb_S2304x128_S2048x128_128_0, k0_pay4 (k0_pay630 x)⟩,
            ⟨Rect.unit ![0, 0] ![128, 128] inb_S2304x128_S128x128_0_0, k0_pay3 (k0_pay622 (F := Ideal))⟩]) = padRows fun r l => if l.val < 64 then 1 else x (ix3 0 r l) :=
  (View.read_writes_junk_eq_canon (View.whole cc0_scratch2) _).trans (hi_read x)

/-- What the kernel leaves in its block of results at a point. -/
theorem block (c : Dev nD) (t : Fin cfg0.N) (y : S1x2048x512.Idx) : outsAt0 m c t y
      = attnOut (iblk m c 1 t) (iblk m c 6 t) (padRows fun r l => iblk m c 2 t (ix3 0 r l))
          (padRows fun r l => if l.val < 64 then iblk m c 3 t (ix3 0 r l) else 1)
          (padRows fun r l => if l.val < 64 then 1 else iblk m c 3 t (ix3 0 r l))
          (iblk m c 4 t) (iblk m c 5 t) (iblk m c 0 t) y := by
  unfold outsAt0
  frame_open
  simp (disch := decide) only [↓ View.readCov_skip, ↓ View.readCov_cons_toLoadRect, ↓ View.readCov_fill]
  frame_out
  refine (View.canon_eq_of_allAt _ y _ ?_ (trips_at c _ _ _ _ _ _ _ _ _ _ _ _ _ _ _ _ _ _ _ _ _ _ _ _ _ _ _ _ _ _ _ y _ le_rfl)).trans ?_
  · exact View.cover_of_tiledL (s := S1x2048x512) _ S1x128x128.size (by sl_kernel_rfl) y
  · rw [Memref.IsWhole.read_unread, Memref.IsWhole.read_unread, Memref.IsWhole.read_unread]
    rw [keys_scratch, lo_scratch, hi_scratch]

end Cert.AttnIdeal.Value

end
-- ==== Proof.SoftmaxMath.lean ====
/- The arithmetic of one row of the windowed attention over the extended reals: a softmax in base two of
   scaled scores, divided out once at the end, is the softmax in base e divided out term by term. -/
module

public import Idealize.ShloMosaic.PureOps.Ideal
public import Mathlib.Analysis.SpecialFunctions.Pow.Real

@[expose] public section

noncomputable section

namespace Cert.SoftmaxMath

open Idealize.ShloMosaic

/-- The scale of a base-two softmax: one over the logarithm of two. -/
def c2 : ℝ := (Real.log 2)⁻¹

theorem c2_pos : 0 < c2 := inv_pos.2 (Real.log_pos one_lt_two)

/-- Multiplying by a positive real commutes with a supremum over a finite set. -/
theorem mul_sup {W : Type} [Fintype W] (c : ℝ) (hc : 0 < c) (s : W → EReal) :
    Finset.univ.fold max (⊥ : EReal) (fun i => (c : EReal) * s i) = (c : EReal) * Finset.univ.fold max (⊥ : EReal) s := by
  have hm : Monotone fun x : EReal => (c : EReal) * x := fun x y h =>
    mul_le_mul_of_nonneg_left h (EReal.coe_nonneg.2 hc.le)
  have h := Finset.comp_sup_eq_sup_comp (s := (Finset.univ : Finset W)) (f := s) (fun x : EReal => (c : EReal) * x)
    (fun x y => hm.map_max) (EReal.coe_mul_bot_of_pos hc)
  exact h.symm

/-- Multiplying by a positive real commutes with the larger of two. -/
theorem mul_max (c : ℝ) (hc : 0 < c) (x y : EReal) : max ((c : EReal) * x) ((c : EReal) * y) = (c : EReal) * max x y := by
  have hm : Monotone fun x : EReal => (c : EReal) * x := fun x y h =>
    mul_le_mul_of_nonneg_left h (EReal.coe_nonneg.2 hc.le)
  exact (hm.map_max).symm

/-- A maximum of scores below plus infinity is below plus infinity. -/
theorem fold_ne_top {W : Type} [Fintype W] (s : W → EReal) (hs : ∀ i, s i ≠ ⊤) :
    Finset.univ.fold max (⊥ : EReal) s ≠ ⊤ := by
  have h : Finset.univ.sup s < ⊤ := (Finset.sup_lt_iff bot_lt_top).2 fun i _ => lt_top_iff_ne_top.2 (hs i)
  exact h.ne

/-- Base two of a scaled difference is base e of the difference. -/
theorem exp2_scaled (x : EReal) (M : ℝ) (hx : x ≠ ⊤) :
    Ideal.exp2 ((c2 : EReal) * x - (c2 : EReal) * (M : EReal)) = Ideal.exp (x - (M : EReal)) := by
  induction x with
  | bot => rw [EReal.coe_mul_bot_of_pos c2_pos, EReal.bot_sub, EReal.bot_sub]; rfl
  | top => exact absurd rfl hx
  | coe r =>
    rw [← EReal.coe_mul, ← EReal.coe_mul, ← EReal.coe_sub, ← EReal.coe_sub, Ideal.exp2_coe, Ideal.exp_coe]
    congr 1
    rw [Real.rpow_eq_pow, Real.rpow_def_of_pos two_pos]
    congr 1
    have : Real.log 2 ≠ 0 := (Real.log_pos one_lt_two).ne'
    unfold c2
    field_simp

/-- The exponential of a score below plus infinity is a nonnegative real. -/
theorem exp_real (x : EReal) (M : ℝ) (hx : x ≠ ⊤) : ∃ r : ℝ, 0 ≤ r ∧ Ideal.exp (x - (M : EReal)) = (r : EReal) := by
  induction x with
  | bot => exact ⟨0, le_rfl, by rw [EReal.bot_sub]; rfl⟩
  | top => exact absurd rfl hx
  | coe r => exact ⟨Real.exp (r - M), (Real.exp_pos _).le, by rw [← EReal.coe_sub, Ideal.exp_coe]⟩

theorem exp_bot (M : ℝ) : Ideal.exp ((⊥ : EReal) - (M : EReal)) = 0 := by rw [EReal.bot_sub]; rfl

/-- A nonnegative real goes into a finite sum of extended reals. -/
theorem mul_sum_real {W : Type} [Fintype W] (d : ℝ) (hd : 0 ≤ d) (f : W → EReal) :
    (d : EReal) * ∑ i, f i = ∑ i, (d : EReal) * f i := by
  classical
  have h : ∀ S : Finset W, (d : EReal) * ∑ i ∈ S, f i = ∑ i ∈ S, (d : EReal) * f i := by
    intro S
    induction S using Finset.induction_on with
    | empty => simp
    | insert a S ha ih =>
      rw [Finset.sum_insert ha, Finset.sum_insert ha,
        EReal.left_distrib_of_nonneg_of_ne_top (EReal.coe_nonneg.2 hd) (EReal.coe_ne_top d), ih]
  exact h _

/-- A finite sum of reals, read as extended reals. -/
theorem coe_sum {W : Type} [Fintype W] (f : W → ℝ) : ((∑ i, f i : ℝ) : EReal) = ∑ i, (f i : EReal) := by
  classical
  have h : ∀ S : Finset W, ((∑ i ∈ S, f i : ℝ) : EReal) = ∑ i ∈ S, (f i : EReal) := by
    intro S
    induction S using Finset.induction_on with
    | empty => simp
    | insert a S ha ih => rw [Finset.sum_insert ha, Finset.sum_insert ha, EReal.coe_add, ih]
  exact h _

/-- Dividing by a nonzero real is multiplying by its inverse. -/
theorem div_real (x : EReal) (d : ℝ) (hd : d ≠ 0) : Ideal.div x (d : EReal) = x * ((d⁻¹ : ℝ) : EReal) := by
  rw [Ideal.div, if_neg (by exact_mod_cast hd), EReal.coe_inv]

/-- ONE ROW: scores `s` on the window (minus infinity where masked), `t` on the context, `z` the sink. The kernel's
    base-two softmax of the scaled scores, its denominator taken with weights `o` that are one wherever a score is
    not masked, divided out once, is the base-e softmax divided out term by term. -/
theorem row {W C : Type} [Fintype W] [Fintype C] (s vw o : W → EReal) (t vc : C → EReal) (z : ℝ)
    (hs : ∀ i, s i ≠ ⊤) (ht : ∀ i, t i ≠ ⊤) (ho : ∀ i, o i = 1 ∨ s i = ⊥) (m : EReal)
    (hm : m = max (max (Finset.univ.fold max (⊥ : EReal) fun i => (c2 : EReal) * s i)
      (Finset.univ.fold max (⊥ : EReal) fun i => (c2 : EReal) * t i)) ((c2 : EReal) * (z : EReal)))
    (M : EReal) (hM : M = max (max (Finset.univ.fold max (⊥ : EReal) s) (Finset.univ.fold max (⊥ : EReal) t)) (z : EReal))
    (D : EReal) (hD : D = ∑ i, Ideal.exp (s i - M) + ∑ i, Ideal.exp (t i - M) + Ideal.exp ((z : EReal) - M)) :
    Ideal.div (∑ i, Ideal.exp2 ((c2 : EReal) * s i - m) * vw i + ∑ i, Ideal.exp2 ((c2 : EReal) * t i - m) * vc i)
        ((∑ i, Ideal.exp2 ((c2 : EReal) * s i - m) * o i + ∑ i, Ideal.exp2 ((c2 : EReal) * t i - m) * 1)
          + Ideal.exp2 ((c2 : EReal) * (z : EReal) - m))
      = ∑ i, Ideal.div (Ideal.exp (s i - M)) D * vw i + ∑ i, Ideal.div (Ideal.exp (t i - M)) D * vc i := by
  have hmM : m = (c2 : EReal) * M := by rw [hm, hM, mul_sup c2 c2_pos, mul_sup c2 c2_pos, mul_max c2 c2_pos, mul_max c2 c2_pos]
  have hMt : M ≠ ⊤ := by
    have h1 := lt_top_iff_ne_top.2 (fold_ne_top s hs)
    have h2 := lt_top_iff_ne_top.2 (fold_ne_top t ht)
    rw [hM]; exact (max_lt (max_lt h1 h2) (EReal.coe_lt_top z)).ne
  have hMb : M ≠ ⊥ := by
    rw [hM]; exact (lt_of_lt_of_le (EReal.bot_lt_coe z) (le_max_right _ _)).ne'
  lift M to ℝ using ⟨hMt, hMb⟩
  rw [hmM]
  simp only [exp2_scaled _ M (hs _), exp2_scaled _ M (ht _), exp2_scaled _ M (EReal.coe_ne_top z)]
  have hso : ∀ i, Ideal.exp (s i - (M : EReal)) * o i = Ideal.exp (s i - (M : EReal)) := fun i => by
    rcases ho i with h | h
    · rw [h, mul_one]
    · rw [h, exp_bot, zero_mul]
  simp only [hso, mul_one]
  rw [← hD]
  choose p hp0 hp using fun i => exp_real (s i) M (hs i)
  choose q hq0 hq using fun i => exp_real (t i) M (ht i)
  have hz : Ideal.exp ((z : EReal) - (M : EReal)) = ((Real.exp (z - M) : ℝ) : EReal) := by
    rw [← EReal.coe_sub, Ideal.exp_coe]
  simp only [hp, hq, hz] at hD ⊢
  have hDr : D = ((∑ i, p i + ∑ i, q i + Real.exp (z - M) : ℝ) : EReal) := by
    rw [hD, EReal.coe_add, EReal.coe_add, coe_sum, coe_sum]
  have hpos : 0 < ∑ i, p i + ∑ i, q i + Real.exp (z - M) :=
    add_pos_of_nonneg_of_pos (add_nonneg (Finset.sum_nonneg fun i _ => hp0 i) (Finset.sum_nonneg fun i _ => hq0 i))
      (Real.exp_pos _)
  generalize ∑ i, p i + ∑ i, q i + Real.exp (z - M) = d at hDr hpos
  subst hDr
  have hd : (0 : ℝ) ≤ d⁻¹ := (inv_pos.2 hpos).le
  simp only [div_real _ d hpos.ne']
  rw [mul_comm, EReal.left_distrib_of_nonneg_of_ne_top (EReal.coe_nonneg.2 hd) (EReal.coe_ne_top _), mul_sum_real _ hd, mul_sum_real _ hd]
  congr 1
  · exact Finset.sum_congr rfl fun i _ => by rw [← mul_assoc, mul_comm ((d⁻¹ : ℝ) : EReal)]
  · exact Finset.sum_congr rfl fun i _ => by rw [← mul_assoc, mul_comm ((d⁻¹ : ℝ) : EReal)]

end Cert.SoftmaxMath

end
-- ==== Proof.AttnSpec.lean ====
/- Windowed attention with a context and a sink, stated over plain index functions: what both programs compute. -/
module

public import proofs.«01_k».proof.Proof.SoftmaxMath

@[expose] public section

noncomputable section

namespace Cert.AttnSpec

open Idealize.ShloMosaic

/-- A sequence of 2048 elements with 128 zeros before and after it, at place `p`. -/
def padded (f : Fin 2048 → EReal) (p : ℕ) : EReal := if h : 128 ≤ p ∧ p < 2176 then f ⟨p - 128, by omega⟩ else 0

/-- Whether row `r` of block `n` may look at place `i` of its window of three blocks: the place is in the sequence and
at most 128 positions away. -/
def allowed (n : Fin 16) (r : Fin 128) (i : Fin 384) : Prop :=
  (128 ≤ 128 * n.val + i.val ∧ 128 * n.val + i.val < 2176) ∧ r.val ≤ i.val ∧ i.val ≤ r.val + 256

instance (n : Fin 16) (r : Fin 128) (i : Fin 384) : Decidable (allowed n r i) := by unfold allowed; infer_instance

/-- One row of a softmax over the scores `s`, `t` and the sink `z`, against the values `vw`, `vc`. -/
def softRow (s : Fin 384 → EReal) (t : Fin 256 → EReal) (z : EReal) (vw : Fin 384 → EReal) (vc : Fin 256 → EReal) : EReal :=
  let M := max (max (Finset.univ.fold max (⊥ : EReal) s) (Finset.univ.fold max (⊥ : EReal) t)) z
  let D := ∑ i, Ideal.exp (s i - M) + ∑ i, Ideal.exp (t i - M) + Ideal.exp (z - M)
  ∑ i, Ideal.div (Ideal.exp (s i - M)) D * vw i + ∑ i, Ideal.div (Ideal.exp (t i - M)) D * vc i

/-- The scale of the scores, one over the square root of 64. -/
def scale : ℝ := 1 / 8

/-- The attention of block `n`, row `r`, of the head `g` of the key head `h`, at lane `d` of batch `b`. -/
def attn (q : Fin 8 → Fin 2048 → Fin 8 → Fin 64 → EReal) (k v : Fin 8 → Fin 2048 → Fin 2 → Fin 64 → EReal)
    (kc vc : Fin 8 → Fin 256 → Fin 2 → Fin 64 → EReal) (sink : Fin 8 → EReal)
    (b : Fin 8) (n : Fin 16) (r : Fin 128) (g : Fin 4) (h : Fin 2) (d : Fin 64) : EReal :=
  softRow
    (fun i => if allowed n r i then
      (∑ e : Fin 64, q b ⟨128 * n.val + r.val, by omega⟩ ⟨4 * h.val + g.val, by omega⟩ e * padded (fun p => k b p h e) (128 * n.val + i.val)) * (scale : EReal)
      else ⊥)
    (fun i => (∑ e : Fin 64, q b ⟨128 * n.val + r.val, by omega⟩ ⟨4 * h.val + g.val, by omega⟩ e * kc b i h e) * (scale : EReal))
    (sink ⟨4 * h.val + g.val, by omega⟩)
    (fun i => padded (fun p => v b p h d) (128 * n.val + i.val))
    (fun i => vc b i h d)

end Cert.AttnSpec

end
-- ==== Proof.AttnRow.lean ====
/- One row of the kernel's softmax is one row of the plain softmax. -/
module

public import proofs.«01_k».proof.Proof.AttnUnit
public import proofs.«01_k».proof.Proof.AttnSpec

@[expose] public section

noncomputable section

namespace Cert.AttnIdeal.Value

open Idealize.ShloMosaic Cert.SoftmaxMath Cert.AttnSpec

/-- A finite extended real is a real. -/
theorem real_of_abs {x : EReal} (h1 : x ≠ ⊤) (h2 : x ≠ ⊥) : ∃ a : ℝ, x = (a : EReal) := ⟨x.toReal, (EReal.coe_toReal h1 h2).symm⟩

/-- A product of scaled queries with keys is the scaled product. -/
theorem scaled_dot (a κ : Fin 64 → EReal) (ha : ∀ e, ∃ x : ℝ, a e = x) (hκ : ∀ e, ∃ x : ℝ, κ e = x) :
    ∃ w : ℝ, (∑ e, a e * κ e) * (scale : EReal) = (w : EReal)
      ∧ ∑ e, a e * ((c2 * scale : ℝ) : EReal) * κ e = (c2 : EReal) * (w : EReal) := by
  choose a' ha using ha
  choose κ' hκ using hκ
  refine ⟨(∑ e, a' e * κ' e) * scale, ?_, ?_⟩
  · simp only [ha, hκ, ← EReal.coe_mul]
    rw [← coe_sum, ← EReal.coe_mul]
  · simp only [ha, hκ, ← EReal.coe_mul]
    rw [← coe_sum]
    congr 1
    rw [Finset.sum_mul, Finset.mul_sum]
    exact Finset.sum_congr rfl fun e _ => by ring

/-- One row of the kernel is one row of the plain softmax, for finite queries, keys and sink. -/
theorem kernel_row (a : Fin 64 → EReal) (κ : Fin 384 → Fin 64 → EReal) (τ : Fin 256 → Fin 64 → EReal) (z : EReal)
    (ha : ∀ e, ∃ x : ℝ, a e = x) (hκ : ∀ i e, ∃ x : ℝ, κ i e = x) (hτ : ∀ i e, ∃ x : ℝ, τ i e = x) (hz : ∃ x : ℝ, z = x)
    (A : Fin 384 → Prop) [DecidablePred A] (vw o : Fin 384 → EReal) (vc : Fin 256 → EReal) (ho : ∀ i, o i = 1 ∨ ¬ A i) :
    rowVal (fun i => ∑ e, a e * ((c2 * scale : ℝ) : EReal) * κ i e + (if A i then 0 else ⊥))
        (fun i => ∑ e, a e * ((c2 * scale : ℝ) : EReal) * τ i e) (z * (c2 : EReal)) vw o vc (fun _ => 1)
      = softRow (fun i => if A i then (∑ e, a e * κ i e) * (scale : EReal) else ⊥)
          (fun i => (∑ e, a e * τ i e) * (scale : EReal)) z vw vc := by
  obtain ⟨z, rfl⟩ := hz
  choose w hw1 hw2 using fun i => scaled_dot a (κ i) ha (hκ i)
  choose u hu1 hu2 using fun i => scaled_dot a (τ i) ha (hτ i)
  simp only [hw1, hw2, hu1, hu2]
  have hs : ∀ i, (c2 : EReal) * (w i : EReal) + (if A i then 0 else ⊥) = (c2 : EReal) * (if A i then (w i : EReal) else ⊥) := fun i => by
    split
    · rw [add_zero]
    · rw [EReal.add_bot, EReal.coe_mul_bot_of_pos c2_pos]
  simp only [hs, mul_comm (z : EReal) (c2 : EReal)]
  exact row (fun i => if A i then (w i : EReal) else ⊥) vw o (fun i => (u i : EReal)) vc z
    (fun i => by split <;> simp) (fun i => EReal.coe_ne_top _)
    (fun i => (ho i).imp_right fun h => if_neg h) _ rfl _ rfl _ rfl

end Cert.AttnIdeal.Value

end
-- ==== Proof.AttnReads.lean ====
/- What the attention kernel reads at each point, in terms of the arguments: the scaled queries, the keys and values,
   the sinks and the table of masks that the host prepares. -/
module

public import proofs.«01_k».proof.Proof.AttnBlock
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The queries among the arguments. -/
def arr0 (c : Dev nD) : S8x2048x8x64.Idx → EReal := m ((c.tc : Thread nD τ).loc main_arg0)

/-- The keys among the arguments. -/
def arr1 (c : Dev nD) : S8x2048x2x64.Idx → EReal := m ((c.tc : Thread nD τ).loc main_arg1)

/-- The values among the arguments. -/
def arr2 (c : Dev nD) : S8x2048x2x64.Idx → EReal := m ((c.tc : Thread nD τ).loc main_arg2)

/-- The context's keys among the arguments. -/
def arr3 (c : Dev nD) : S8x256x2x64.Idx → EReal := m ((c.tc : Thread nD τ).loc main_arg3)

/-- The context's values among the arguments. -/
def arr4 (c : Dev nD) : S8x256x2x64.Idx → EReal := m ((c.tc : Thread nD τ).loc main_arg4)

/-- The sinks among the arguments. -/
def arr5 (c : Dev nD) : S8.Idx → EReal := m ((c.tc : Thread nD τ).loc main_arg5)

/-- Which block each window takes at a point. -/
theorem idx : ∀ t : Fin grid0.N, win0_0.index t = ![0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![0, 0, 0] ∧ win0_7.index t = ![t.val, 0, 0] := by
  decide +kernel

/-- One over the logarithm of two, as the host computes it. -/
theorem host_c2 : (Host.divf (F := Ideal) (constant S_ .f32 0x3F800000#32) (Host.log (constant S_ .f32 0x40000000#32)) : FVec Ideal S_ .f32)
    = fun _ => ((Cert.SoftmaxMath.c2 : ℝ) : EReal) := by
  have h1 : Ideal.ofBits FTy.f32 0x3F800000#32 = ((1 : ℝ) : EReal) := by
    simp [Ideal.ofBits, Ideal.ieee]; norm_num
    exact_mod_cast (by norm_num : (8388608 : ℝ) * (1 / 8388608) = 1)
  have h2 : Ideal.ofBits FTy.f32 0x40000000#32 = ((2 : ℝ) : EReal) := by
    simp [Ideal.ofBits, Ideal.ieee]; norm_num
    exact_mod_cast (by norm_num : (8388608 : ℝ) * (1 / 4194304) = 2)
  funext i
  show Ideal.div (Ideal.ofBits FTy.f32 0x3F800000#32) (Ideal.log (Ideal.ofBits FTy.f32 0x40000000#32)) = _
  rw [h1, h2]
  have h3 : Ideal.log ((2 : ℝ) : EReal) = ((Real.log 2 : ℝ) : EReal) := if_neg (by norm_num)
  rw [h3]
  have h4 : Real.log 2 ≠ 0 := (Real.log_pos one_lt_two).ne'
  unfold Ideal.div Cert.SoftmaxMath.c2
  rw [if_neg (by exact_mod_cast h4), ← EReal.coe_inv, ← EReal.coe_mul, one_mul]

/-- The scale the host multiplies the queries by is one eighth. -/
theorem host_eighth : Ideal.ofBits FTy.f32 0x3E000000#32 = ((Cert.AttnSpec.scale : ℝ) : EReal) := by
  unfold Cert.AttnSpec.scale
  simp [Ideal.ofBits, Ideal.ieee]
  norm_num
  exact_mod_cast (by norm_num : (8388608 : ℝ) * (1 / 67108864) = 1 / 8)

/-- The scaled sinks, in the buffer the kernel reads. -/
theorem v6 (c : Dev nD) : V m c main_v6 = mulf (F := Ideal) (m ((c.tc : Thread nD τ).loc main_arg5) : FVec Ideal S8 .f32)
    (broadcastInDim S8 ![] bcast_S_S8 (Host.divf (F := Ideal) (constant S_ .f32 0x3F800000#32) (Host.log (constant S_ .f32 0x40000000#32)) : FVec Ideal S_ .f32)) := by
  unfold V
  simp only [List.flatten_cons, List.flatten_nil, List.append_nil, List.cons_append, List.nil_append]
  entry_read
  rfl

/-- The scaled queries, in the buffer the kernel reads. -/
theorem v10 (c : Dev nD) : V m c main_v10 = truncf (F := Ideal) .bf16 (mulf
    (shapeCast S8x2048x512 (transpose S8x2048x4x2x64 [0, 1, 3, 2, 4] (shapeCast S8x2048x2x4x64
      (m ((c.tc : Thread nD τ).loc main_arg0) : FVec Ideal S8x2048x8x64 .f32) shapeCasts_S8x2048x8x64_S8x2048x2x4x64)
      transposes_S8x2048x2x4x64_S8x2048x4x2x64_0_1_3_2_4) shapeCasts_S8x2048x4x2x64_S8x2048x512)
    (broadcastInDim S8x2048x512 ![] bcast_S_S8x2048x512 (mulf (F := Ideal)
      (Host.divf (F := Ideal) (constant S_ .f32 0x3F800000#32) (Host.log (constant S_ .f32 0x40000000#32)) : FVec Ideal S_ .f32)
      (constant S_ .f32 0x3E000000#32)))) bitsLt_bf16_f32 := by
  unfold V
  simp only [List.flatten_cons, List.flatten_nil, List.append_nil, List.cons_append, List.nil_append]
  entry_read
  rfl

/-- The keys, in the buffer the kernel reads. -/
theorem v12 (c : Dev nD) : V m c main_v12 = truncf (F := Ideal) .bf16 (shapeCast S8x2048x128
    (m ((c.tc : Thread nD τ).loc main_arg1) : FVec Ideal S8x2048x2x64 .f32) shapeCasts_S8x2048x2x64_S8x2048x128) bitsLt_bf16_f32 := by
  unfold V
  simp only [List.flatten_cons, List.flatten_nil, List.append_nil, List.cons_append, List.nil_append]
  entry_read
  rfl

/-- The values, in the buffer the kernel reads. -/
theorem v14 (c : Dev nD) : V m c main_v14 = truncf (F := Ideal) .bf16 (shapeCast S8x2048x128
    (m ((c.tc : Thread nD τ).loc main_arg2) : FVec Ideal S8x2048x2x64 .f32) shapeCasts_S8x2048x2x64_S8x2048x128) bitsLt_bf16_f32 := by
  unfold V
  simp only [List.flatten_cons, List.flatten_nil, List.append_nil, List.cons_append, List.nil_append]
  entry_read
  rfl

/-- The context's keys, in the buffer the kernel reads. -/
theorem v16 (c : Dev nD) : V m c main_v16 = truncf (F := Ideal) .bf16 (shapeCast S8x256x128
    (m ((c.tc : Thread nD τ).loc main_arg3) : FVec Ideal S8x256x2x64 .f32) shapeCasts_S8x256x2x64_S8x256x128) bitsLt_bf16_f32 := by
  unfold V
  simp only [List.flatten_cons, List.flatten_nil, List.append_nil, List.cons_append, List.nil_append]
  entry_read
  rfl

/-- The context's values, in the buffer the kernel reads. -/
theorem v18 (c : Dev nD) : V m c main_v18 = truncf (F := Ideal) .bf16 (shapeCast S8x256x128
    (m ((c.tc : Thread nD τ).loc main_arg4) : FVec Ideal S8x256x2x64 .f32) shapeCasts_S8x256x2x64_S8x256x128) bitsLt_bf16_f32 := by
  unfold V
  simp only [List.flatten_cons, List.flatten_nil, List.append_nil, List.cons_append, List.nil_append]
  entry_read
  rfl

/-- A point reads its own batch of the keys. -/
theorem read2 (c : Dev nD) (p : Fin cfg0.N) (b : Fin 8) (hb : p.val = b.val) (r : Fin 2048) (h : Fin 2) (d : Fin 64) :
    iblk m c 2 p (ix3 0 r (lane h d)) = arr1 m c (ix4 b r h d) := by
  obtain ⟨i0, i1, i2, i3, i4, i5, i6, i7⟩ := idx p
  have he : (win0_2.blk p).view.emb (ix3 0 r (lane h d)) = ix3 b r (lane h d) := by
    blk_ext [i2]
  show V m c main_v12 ((win0_2.blk p).view.emb (ix3 0 r (lane h d))) = _
  rw [he, v12]
  unfold lane
  pointwise
  rfl

/-- A point reads its own batch of the values. -/
theorem read3 (c : Dev nD) (p : Fin cfg0.N) (b : Fin 8) (hb : p.val = b.val) (r : Fin 2048) (h : Fin 2) (d : Fin 64) :
    iblk m c 3 p (ix3 0 r (lane h d)) = arr2 m c (ix4 b r h d) := by
  obtain ⟨i0, i1, i2, i3, i4, i5, i6, i7⟩ := idx p
  have he : (win0_3.blk p).view.emb (ix3 0 r (lane h d)) = ix3 b r (lane h d) := by
    blk_ext [i3]
  show V m c main_v14 ((win0_3.blk p).view.emb (ix3 0 r (lane h d))) = _
  rw [he, v14]
  unfold lane
  pointwise
  rfl

/-- A point reads its own batch of the context's keys. -/
theorem read4 (c : Dev nD) (p : Fin cfg0.N) (b : Fin 8) (hb : p.val = b.val) (r : Fin 256) (h : Fin 2) (d : Fin 64) :
    iblk m c 4 p (ix3 0 r (lane h d)) = arr3 m c (ix4 b r h d) := by
  obtain ⟨i0, i1, i2, i3, i4, i5, i6, i7⟩ := idx p
  have he : (win0_4.blk p).view.emb (ix3 0 r (lane h d)) = ix3 b r (lane h d) := by
    blk_ext [i4]
  show V m c main_v16 ((win0_4.blk p).view.emb (ix3 0 r (lane h d))) = _
  rw [he, v16]
  unfold lane
  pointwise
  rfl

/-- A point reads its own batch of the context's values. -/
theorem read5 (c : Dev nD) (p : Fin cfg0.N) (b : Fin 8) (hb : p.val = b.val) (r : Fin 256) (h : Fin 2) (d : Fin 64) :
    iblk m c 5 p (ix3 0 r (lane h d)) = arr4 m c (ix4 b r h d) := by
  obtain ⟨i0, i1, i2, i3, i4, i5, i6, i7⟩ := idx p
  have he : (win0_5.blk p).view.emb (ix3 0 r (lane h d)) = ix3 b r (lane h d) := by
    blk_ext [i5]
  show V m c main_v18 ((win0_5.blk p).view.emb (ix3 0 r (lane h d))) = _
  rw [he, v18]
  unfold lane
  pointwise
  rfl

/-- The heads' words laid side by side, read one by one. -/
theorem cast512_at (y : FVec Ideal S8x2048x4x2x64 .f32) (b : Fin 8) (r : Fin 2048) (j : Fin 4) (h : Fin 2) (d : Fin 64) :
    shapeCast S8x2048x512 y shapeCasts_S8x2048x4x2x64_S8x2048x512 (ix3 b r (⟨128 * j.val + (64 * h.val + d.val), by omega⟩ : Fin 512))
      = y (ix5 b r j h d) := by
  pointwise

/-- The heads regrouped, a key head's query heads together. -/
theorem turn_at (y : FVec Ideal S8x2048x2x4x64 .f32) (b : Fin 8) (r : Fin 2048) (j : Fin 4) (h : Fin 2) (d : Fin 64) :
    transpose S8x2048x4x2x64 [0, 1, 3, 2, 4] y transposes_S8x2048x2x4x64_S8x2048x4x2x64_0_1_3_2_4 (ix5 b r j h d)
      = y (ix5 b r h j d) := by
  pointwise

/-- The query heads split by key heads. -/
theorem cast5_at (y : FVec Ideal S8x2048x8x64 .f32) (b : Fin 8) (r : Fin 2048) (j : Fin 4) (h : Fin 2) (d : Fin 64) :
    shapeCast S8x2048x2x4x64 y shapeCasts_S8x2048x8x64_S8x2048x2x4x64 (ix5 b r h j d)
      = y (ix4 b r (⟨4 * h.val + j.val, by omega⟩ : Fin 8) d) := by
  pointwise
  congr 2
  exact Fin.ext (by simp only; omega)

/-- A point reads its own batch of the scaled queries. -/
theorem read1 (c : Dev nD) (p : Fin cfg0.N) (b : Fin 8) (hb : p.val = b.val) (r : Fin 2048) (j : Fin 4) (h : Fin 2) (d : Fin 64) :
    iblk m c 1 p (ix3 0 r (⟨128 * j.val + (lane h d).val, by omega⟩ : Fin 512))
      = arr0 m c (ix4 b r (⟨4 * h.val + j.val, by omega⟩ : Fin 8) d)
        * ((Cert.SoftmaxMath.c2 * Cert.AttnSpec.scale : ℝ) : EReal) := by
  obtain ⟨i0, i1, i2, i3, i4, i5, i6, i7⟩ := idx p
  have he : (win0_1.blk p).view.emb (ix3 0 r (⟨128 * j.val + (lane h d).val, by omega⟩ : Fin 512))
      = ix3 b r (⟨128 * j.val + (lane h d).val, by omega⟩ : Fin 512) := by
    blk_ext [i1]
  show V m c main_v10 ((win0_1.blk p).view.emb (ix3 0 r (⟨128 * j.val + (lane h d).val, by omega⟩ : Fin 512))) = _
  rw [he, v10, host_c2]
  refine congrArg₂ (· * ·) ((cast512_at _ b r j h d).trans ((turn_at _ b r j h d).trans (cast5_at _ b r j h d))) ?_
  show ((Cert.SoftmaxMath.c2 : ℝ) : EReal) * Ideal.ofBits FTy.f32 0x3E000000#32 = _
  rw [host_eighth, EReal.coe_mul]

/-- Every point reads all the scaled sinks. -/
theorem read0 (c : Dev nD) (p : Fin cfg0.N) (j : Fin 8) :
    iblk m c 0 p (ix1 j) = arr5 m c (ix1 j) * ((Cert.SoftmaxMath.c2 : ℝ) : EReal) := by
  obtain ⟨i0, i1, i2, i3, i4, i5, i6, i7⟩ := idx p
  have he : (win0_0.blk p).view.emb (ix1 j) = ix1 j := by
    blk_ext [i0]
  show V m c main_v6 ((win0_0.blk p).view.emb (ix1 j)) = _
  rw [he, v6, host_c2]
  pointwise
  rfl

end Cert.AttnIdeal.Value

end
-- ==== Proof.AttnRef.lean ====
/- The attention reference, step by step, read at an index. -/
module

public import proofs.«01_k».proof.Proof.Gen.AttnRefIdeal.Run
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.AttnRefIdeal.Value

open Cert.AttnRefIdeal Cert.AttnRefIdeal.Gen Idealize.ShloMosaic Idealize.ShloMosaic.TcCoe Idealize.SL.Sem

/-- The queries with the sequence cut into blocks and the heads grouped by key head. -/
def queries (q : FVec Ideal S8x2048x8x64 .f32) : FVec Ideal S8x16x128x2x4x64 .f32 :=
  shapeCast _ q shapeCasts_S8x2048x8x64_S8x16x128x2x4x64

/-- A sequence padded by one block at either end and cut into blocks. -/
def blocks (x : FVec Ideal S8x2048x2x64 .f32) : FVec Ideal S8x18x128x2x64 .f32 :=
  shapeCast _ (pad S8x2304x2x64 ![0, 128, 0, 0] ![0, 128, 0, 0] ![0, 0, 0, 0] x (sitofp .f32 (constantI S_ 32 0#32)) pads_S8x2048x2x64_S8x2304x2x64_000_1281280_000_000 h_S_) shapeCasts_S8x2304x2x64_S8x18x128x2x64

/-- Each block beside the one before and the one after it. -/
def bands (x : FVec Ideal S8x2048x2x64 .f32) : FVec Ideal S8x16x384x2x64 .f32 :=
  fn_main_v6 (F := Ideal) (extractStridedSlice S8x16x128x2x64 ![0, 0, 0, 0, 0] (blocks x) slices_S8x18x128x2x64_S8x16x128x2x64_0_0_0_0_0)
    (extractStridedSlice S8x16x128x2x64 ![0, 1, 0, 0, 0] (blocks x) slices_S8x18x128x2x64_S8x16x128x2x64_0_1_0_0_0)
    (extractStridedSlice S8x16x128x2x64 ![0, 2, 0, 0, 0] (blocks x) slices_S8x18x128x2x64_S8x16x128x2x64_0_2_0_0_0)

/-- The mask of the window. -/
def mask : IVec S16x128x384 1 :=
  andi (broadcastInDim S16x128x384 ![0, 1, 2] bcast_S1x128x384_S16x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S16x128x384 ![0, 1, 2] bcast_S16x1x384_S16x128x384_0_1_2 (broadcastInDim S16x1x384 ![0, 2] bcast_S16x384_S16x1x384_0_2 (andi (cmpi .sge (addi (broadcastInDim S16x384 ![0, 1] bcast_S16x1_S16x384_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 0#32))) (cmpi .slt (addi (broadcastInDim S16x384 ![0, 1] bcast_S16x1_S16x384_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 2048#32))))))

/-- The scores against the window, with −∞ outside it. -/
def winPart (q : FVec Ideal S8x2048x8x64 .f32) (k : FVec Ideal S8x2048x2x64 .f32) : FVec Ideal S8x16x2x4x128x384 .f32 :=
  select (broadcastInDim S8x16x2x4x128x384 ![0, 1, 2, 3, 4, 5] bcast_S1x16x1x1x128x384_S8x16x2x4x128x384_0_1_2_3_4_5 (broadcastInDim S1x16x1x1x128x384 ![1, 4, 5] bcast_S16x128x384_S1x16x1x1x128x384_1_4_5 mask))
    (mulf (transpose S8x16x2x4x128x384 [0, 1, 2, 5, 4, 3] (Host.dotGeneral dot_S8x16x384x2x64_S8x16x128x2x4x64_S8x16x2x384x128x4_4_5_2_24_013_013 none (bands k) (queries q)) transposes_S8x16x2x384x128x4_S8x16x2x4x128x384_0_1_2_5_4_3)
      (broadcastInDim S8x16x2x4x128x384 ![] bcast_S_S8x16x2x4x128x384 (constant S_ .f32 0x3E000000#32)))
    (broadcastInDim S8x16x2x4x128x384 ![] bcast_S_S8x16x2x4x128x384 (constant S_ .f32 0xFF800000#32))

/-- The scores against the context. -/
def ctxPart (q : FVec Ideal S8x2048x8x64 .f32) (kc : FVec Ideal S8x256x2x64 .f32) : FVec Ideal S8x16x2x4x128x256 .f32 :=
  mulf (transpose S8x16x2x4x128x256 [0, 3, 1, 5, 4, 2] (Host.dotGeneral dot_S8x256x2x64_S8x16x128x2x4x64_S8x2x256x16x128x4_3_5_1_124_02_03 none kc (queries q)) transposes_S8x2x256x16x128x4_S8x16x2x4x128x256_0_3_1_5_4_2)
    (broadcastInDim S8x16x2x4x128x256 ![] bcast_S_S8x16x2x4x128x256 (constant S_ .f32 0x3E000000#32))

/-- The sinks, one per head, at every row. -/
def sinkPart (s : FVec Ideal S8 .f32) : FVec Ideal S8x16x2x4x128x1 .f32 :=
  broadcastInDim S8x16x2x4x128x1 ![0, 1, 2, 3, 4, 5] bcast_S1x1x2x4x1x1_S8x16x2x4x128x1_0_1_2_3_4_5 (broadcastInDim S1x1x2x4x1x1 ![2, 3] bcast_S2x4_S1x1x2x4x1x1_2_3 (shapeCast _ s shapeCasts_S8_S2x4))

/-- The three kinds of scores side by side. -/
def logits (q : FVec Ideal S8x2048x8x64 .f32) (k : FVec Ideal S8x2048x2x64 .f32) (kc : FVec Ideal S8x256x2x64 .f32)
    (s : FVec Ideal S8 .f32) : FVec Ideal S8x16x2x4x128x641 .f32 :=
  fn_main_v59 (F := Ideal) (winPart q k) (ctxPart q kc) (sinkPart s)

/-- The greatest score of each row. -/
def tops (z : FVec Ideal S8x16x2x4x128x641 .f32) : FVec Ideal S8x16x2x4x128 .f32 :=
  Host.reduce FloatOps.maximumf z (constant S_ .f32 0xFF800000#32) reducesTo_S8x16x2x4x128x641_S8x16x2x4x128_d5 h_S_

/-- The sum of each row. -/
def totals (e : FVec Ideal S8x16x2x4x128x641 .f32) : FVec Ideal S8x16x2x4x128 .f32 :=
  Host.reduceAdd e (constant S_ .f32 0x00000000#32) reducesTo_S8x16x2x4x128x641_S8x16x2x4x128_d5 h_S_

/-- The exponentials of the scores less their greatest. -/
def exps (z : FVec Ideal S8x16x2x4x128x641 .f32) : FVec Ideal S8x16x2x4x128x641 .f32 :=
  Host.exp (subf z (broadcastInDim S8x16x2x4x128x641 ![0, 1, 2, 3, 4, 5] bcast_S8x16x2x4x128x1_S8x16x2x4x128x641_0_1_2_3_4_5 (broadcastInDim S8x16x2x4x128x1 ![0, 1, 2, 3, 4] bcast_S8x16x2x4x128_S8x16x2x4x128x1_0_1_2_3_4 (maximumf (broadcastInDim S8x16x2x4x128 ![] bcast_S_S8x16x2x4x128 (constant S_ .f32 0xFF800000#32)) (tops z)))))

/-- The weights of the softmax. -/
def probs (e : FVec Ideal S8x16x2x4x128x641 .f32) : FVec Ideal S8x16x2x4x128x641 .f32 :=
  Host.divf e (broadcastInDim S8x16x2x4x128x641 ![0, 1, 2, 3, 4, 5] bcast_S8x16x2x4x128x1_S8x16x2x4x128x641_0_1_2_3_4_5 (broadcastInDim S8x16x2x4x128x1 ![0, 1, 2, 3, 4] bcast_S8x16x2x4x128_S8x16x2x4x128x1_0_1_2_3_4 (totals e)))

/-- The weighted values of the window and of the context. -/
def mixed (p : FVec Ideal S8x16x2x4x128x641 .f32) (v : FVec Ideal S8x2048x2x64 .f32) (vc : FVec Ideal S8x256x2x64 .f32) :
    FVec Ideal S8x16x128x2x4x64 .f32 :=
  addf (transpose S8x16x128x2x4x64 [0, 1, 5, 2, 4, 3] (Host.dotGeneral dot_S8x16x384x2x64_S8x16x2x4x128x384_S8x16x2x64x4x128_2_5_4_34_013_012 none (bands v) (extractStridedSlice S8x16x2x4x128x384 ![0, 0, 0, 0, 0, 0] p slices_S8x16x2x4x128x641_S8x16x2x4x128x384_0_0_0_0_0_0)) transposes_S8x16x2x64x4x128_S8x16x128x2x4x64_0_1_5_2_4_3)
    (transpose S8x16x128x2x4x64 [0, 3, 5, 1, 4, 2] (Host.dotGeneral dot_S8x256x2x64_S8x16x2x4x128x256_S8x2x64x16x4x128_1_5_3_134_02_02 none vc (extractStridedSlice S8x16x2x4x128x256 ![0, 0, 0, 0, 0, 384] p slices_S8x16x2x4x128x641_S8x16x2x4x128x256_0_0_0_0_0_384)) transposes_S8x2x64x16x4x128_S8x16x128x2x4x64_0_3_5_1_4_2)

/-- The whole attention. -/
def whole (q : FVec Ideal S8x2048x8x64 .f32) (k v : FVec Ideal S8x2048x2x64 .f32) (kc vc : FVec Ideal S8x256x2x64 .f32)
    (s : FVec Ideal S8 .f32) : FVec Ideal S8x2048x512 .bf16 :=
  truncf .bf16 (shapeCast _ (transpose S8x16x128x4x2x64 [0, 1, 2, 4, 3, 5] (mixed (probs (exps (logits q k kc s))) v vc) transposes_S8x16x128x2x4x64_S8x16x128x4x2x64_0_1_2_4_3_5) shapeCasts_S8x16x128x4x2x64_S8x2048x512) bitsLt_bf16_f32

set_option maxHeartbeats 4000000 in
/-- The reference's result is the whole attention of its arguments. -/
theorem res_whole (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_out0 res_main_v80 whole mixed probs exps tops totals logits winPart ctxPart sinkPart mask bands blocks queries fn_main_v6 fn_main_v59
  rfl

end Cert.AttnRefIdeal.Value

end
-- ==== Proof.AttnRefParts.lean ====
/- The parts of the attention reference read at an index: the padded blocks, the mask, the scores, the greatest and the sums. -/
module

public import proofs.«01_k».proof.Proof.AttnRef
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.AttnRefIdeal.Value

open Cert.AttnRefIdeal Cert.AttnRefIdeal.Gen Idealize.ShloMosaic Idealize.ShloMosaic.TcCoe Idealize.SL.Sem

/-- The word of the band test. -/
theorem band_word : ∀ (r : Fin 128) (i : Fin 384),
    IntOp.cmpi CmpIPredicate.sle
        (IntOp.absi (IntOp.subi (IntOp.subi (BitVec.ofNat 32 i.val) 128#32) (BitVec.ofNat 32 r.val))) 128#32
      = if r.val ≤ i.val ∧ i.val ≤ r.val + 256 then 1#1 else 0#1 := by
  decide +kernel

/-- The word of the test that a place is in the sequence. -/
theorem inside_word : ∀ (n : Fin 16) (i : Fin 384),
    IntOp.andi
        (IntOp.cmpi CmpIPredicate.sge
          (IntOp.addi (IntOp.muli (IntOp.subi (BitVec.ofNat 32 n.val) 1#32) 128#32) (BitVec.ofNat 32 i.val)) 0#32)
        (IntOp.cmpi CmpIPredicate.slt
          (IntOp.addi (IntOp.muli (IntOp.subi (BitVec.ofNat 32 n.val) 1#32) 128#32) (BitVec.ofNat 32 i.val)) 2048#32)
      = if 128 ≤ 128 * n.val + i.val ∧ 128 * n.val + i.val < 2176 then 1#1 else 0#1 := by
  decide +kernel

/-- The mask is one exactly where the window allows. -/
theorem mask_at (n : Fin 16) (r : Fin 128) (i : Fin 384) : mask (ix3 n r i) = if Cert.AttnSpec.allowed n r i then 1#1 else 0#1 := by
  unfold mask
  pointwise
  rw [band_word, inside_word]
  unfold Cert.AttnSpec.allowed
  by_cases h1 : r.val ≤ i.val ∧ i.val ≤ r.val + 256 <;> by_cases h2 : 128 ≤ 128 * n.val + i.val ∧ 128 * n.val + i.val < 2176 <;>
    simp only [h1, h2, if_true, if_false, and_self, and_true, true_and, and_false, false_and] <;> decide

/-- A block of the padded sequence. -/
theorem blocks_at (x : FVec Ideal S8x2048x2x64 .f32) (b : Fin 8) (n : Fin 18) (r : Fin 128) (h : Fin 2) (d : Fin 64) :
    blocks x (ix5 b n r h d) = Cert.AttnSpec.padded (fun p => x (ix4 b p h d)) (128 * n.val + r.val) := by
  unfold blocks
  pointwise
  unfold Cert.AttnSpec.padded
  have hz : (FloatOps.sitofp FTy.f32 0#32 : Ideal FTy.f32) = (0 : EReal) := by
    show (((0#32 : BitVec 32).toInt : ℝ) : EReal) = 0
    simp
  by_cases hc : 128 ≤ 128 * n.val + r.val ∧ 128 * n.val + r.val < 2176
  · rw [dif_pos hc, dif_pos (by omega)]
    congr 2
    exact Fin.ext (by show n.val * 128 + r.val - 128 = 128 * n.val + r.val - 128; omega)
  · rw [dif_neg hc, dif_neg (by omega), hz]

/-- A window of three blocks is 384 places of the padded sequence. -/
theorem bands_at (x : FVec Ideal S8x2048x2x64 .f32) (b : Fin 8) (n : Fin 16) (i : Fin 384) (h : Fin 2) (d : Fin 64) :
    bands x (ix5 b n i h d) = Cert.AttnSpec.padded (fun p => x (ix4 b p h d)) (128 * n.val + i.val) := by
  unfold bands fn_main_v6
  pointwise
  simp only [blocks_at]
  by_cases h1 : i.val < 128
  · rw [dif_pos h1]
  · rw [dif_neg h1]
    by_cases h2 : i.val - 128 < 128
    · rw [dif_pos h2]
      exact congrArg _ (by show 128 * (1 + n.val) + (i.val - 128) = _; omega)
    · rw [dif_neg h2]
      exact congrArg _ (by show 128 * (2 + n.val) + (i.val - 128 - 128) = _; omega)

/-- The reference's scale is one eighth. -/
theorem eighth : Ideal.ofBits FTy.f32 1040187392#32 = ((Cert.AttnSpec.scale : ℝ) : EReal) := by
  unfold Cert.AttnSpec.scale
  simp [Ideal.ofBits, Ideal.ieee]
  norm_num
  exact_mod_cast (by norm_num : (8388608 : ℝ) * (1 / 67108864) = 1 / 8)

/-- The reference's masked score is −∞. -/
theorem bottom : Ideal.ofBits FTy.f32 4286578688#32 = ⊥ := by
  simp [Ideal.ofBits, Ideal.ieee]

/-- A score against the window. -/
theorem winPart_at (q : FVec Ideal S8x2048x8x64 .f32) (k : FVec Ideal S8x2048x2x64 .f32) (b : Fin 8) (n : Fin 16) (h : Fin 2) (g : Fin 4) (r : Fin 128) (i : Fin 384) :
    winPart q k (ix6 b n h g r i) = if Cert.AttnSpec.allowed n r i then
      (∑ e : Fin 64, q (ix4 b (⟨128 * n.val + r.val, by omega⟩ : Fin 2048) (⟨4 * h.val + g.val, by omega⟩ : Fin 8) e)
        * Cert.AttnSpec.padded (fun p => k (ix4 b p h e)) (128 * n.val + i.val)) * (Cert.AttnSpec.scale : EReal)
      else ⊥ := by
  have hq : ∀ e : Fin 64, queries q (ix6 b n r h g e) = q (ix4 b (⟨128 * n.val + r.val, by omega⟩ : Fin 2048) (⟨4 * h.val + g.val, by omega⟩ : Fin 8) e) := by
    intro e
    unfold queries
    pointwise
    congr 2 <;> exact Fin.ext (by simp only; omega)
  unfold winPart
  pointwise
  simp only [mask_at, bands_at, hq, eighth, bottom]
  by_cases hc : Cert.AttnSpec.allowed n r i
  · simp only [hc, if_true, Scalar.select]
    refine congrArg (· * _) (Finset.sum_congr rfl fun e _ => mul_comm _ _)
  · simp only [hc, if_false, Scalar.select]
    rfl

/-- A score against the context. -/
theorem ctxPart_at (q : FVec Ideal S8x2048x8x64 .f32) (k : FVec Ideal S8x256x2x64 .f32) (b : Fin 8) (n : Fin 16) (h : Fin 2) (g : Fin 4) (r : Fin 128) (i : Fin 256) :
    ctxPart q k (ix6 b n h g r i) =
      (∑ e : Fin 64, q (ix4 b (⟨128 * n.val + r.val, by omega⟩ : Fin 2048) (⟨4 * h.val + g.val, by omega⟩ : Fin 8) e)
        * k (ix4 b i h e)) * (Cert.AttnSpec.scale : EReal) := by
  unfold ctxPart queries
  pointwise
  rw [eighth]
  refine congrArg (· * _) (Finset.sum_congr rfl fun e _ => ?_)
  rw [mul_comm]
  congr 3 <;> exact Fin.ext (by simp only; omega)

/-- A head's sink. -/
theorem sinkPart_at (s : FVec Ideal S8 .f32) (b : Fin 8) (n : Fin 16) (h : Fin 2) (g : Fin 4) (r : Fin 128) (j : Fin 1) :
    sinkPart s (ix6 b n h g r j) = s (ix1 (⟨4 * h.val + g.val, by omega⟩ : Fin 8)) := by
  unfold sinkPart
  pointwise
  congr 2
  exact Fin.ext (by simp only; omega)

/-- The last axis of the scores is the one reduced. -/
theorem last_axis : S8x16x2x4x128x641.Reduces [5] S8x16x2x4x128 := by decide

/-- A row's index at a place of its last axis. -/
theorem lift_last (b : Fin 8) (n : Fin 16) (h : Fin 2) (g : Fin 4) (r : Fin 128) (i : Fin 641) :
    last_axis.lift (ix5 b n h g r) i = ix6 b n h g r i := by
  funext a
  match a with
  | ⟨0, _⟩ => rfl | ⟨1, _⟩ => rfl | ⟨2, _⟩ => rfl | ⟨3, _⟩ => rfl | ⟨4, _⟩ => rfl | ⟨5, _⟩ => rfl

/-- The greatest score of a row. -/
theorem tops_at (z : FVec Ideal S8x16x2x4x128x641 .f32) (b : Fin 8) (n : Fin 16) (h : Fin 2) (g : Fin 4) (r : Fin 128) :
    tops z (ix5 b n h g r) = Finset.univ.fold max (⊥ : EReal) (fun i => z (ix6 b n h g r i)) := by
  unfold tops
  rw [Host.reduce_eq_fold_single _ _ _ _ last_axis]
  refine Eq.trans (b := Finset.univ.fold max (Ideal.ofBits FTy.f32 4286578688#32) (fun i => z (last_axis.lift (ix5 b n h g r) i))) rfl ?_
  rw [bottom]
  exact congrArg (fun f : Fin 641 → EReal => Finset.univ.fold max (⊥ : EReal) f) (funext fun i => congrArg z (lift_last b n h g r i))

/-- The sum of a row. -/
theorem totals_at (z : FVec Ideal S8x16x2x4x128x641 .f32) (b : Fin 8) (n : Fin 16) (h : Fin 2) (g : Fin 4) (r : Fin 128) :
    totals z (ix5 b n h g r) = ∑ i : Fin 641, z (ix6 b n h g r i) := by
  unfold totals
  refine (Ideal.hostReduceAdd_single _ last_axis z _ _).trans ?_
  refine Eq.trans (congrArg₂ (· + ·) (?_ : _ = (0 : EReal)) (Finset.sum_congr rfl fun i _ => congrArg z (lift_last b n h g r i))) (zero_add _)
  show Ideal.ofBits FTy.f32 0#32 = 0
  simp [Ideal.ofBits, Ideal.ieee]

/-- A weight of a row. -/
theorem probs_at (z : FVec Ideal S8x16x2x4x128x641 .f32) (b : Fin 8) (n : Fin 16) (h : Fin 2) (g : Fin 4) (r : Fin 128) (i : Fin 641) :
    probs z (ix6 b n h g r i) = Ideal.div (z (ix6 b n h g r i)) (totals z (ix5 b n h g r)) := by
  unfold probs
  pointwise

/-- The scores side by side. -/
theorem logits_at (q : FVec Ideal S8x2048x8x64 .f32) (k : FVec Ideal S8x2048x2x64 .f32) (kc : FVec Ideal S8x256x2x64 .f32)
    (s : FVec Ideal S8 .f32) (b : Fin 8) (n : Fin 16) (h : Fin 2) (g : Fin 4) (r : Fin 128) (i : Fin 641) :
    logits q k kc s (ix6 b n h g r i) = if h1 : i.val < 384 then winPart q k (ix6 b n h g r (⟨i.val, h1⟩ : Fin 384))
      else if h2 : i.val - 384 < 256 then ctxPart q kc (ix6 b n h g r (⟨i.val - 384, h2⟩ : Fin 256))
      else s (ix1 (⟨4 * h.val + g.val, by omega⟩ : Fin 8)) := by
  unfold logits fn_main_v59
  pointwise
  simp only [sinkPart_at]

/-- The weighted values of a row. -/
theorem mixed_at (p : FVec Ideal S8x16x2x4x128x641 .f32) (v : FVec Ideal S8x2048x2x64 .f32) (vc : FVec Ideal S8x256x2x64 .f32)
    (b : Fin 8) (n : Fin 16) (r : Fin 128) (h : Fin 2) (g : Fin 4) (d : Fin 64) :
    mixed p v vc (ix6 b n r h g d)
      = ∑ x : Fin 384, bands v (ix5 b n x h d) * p (ix6 b n h g r (⟨x.val, by omega⟩ : Fin 641))
        + ∑ x : Fin 256, vc (ix4 b x h d) * p (ix6 b n h g r (⟨384 + x.val, by omega⟩ : Fin 641)) := by
  unfold mixed
  pointwise

end Cert.AttnRefIdeal.Value

end
-- ==== Proof.AttnMask.lean ====
/- The table of masks the attention kernel reads at each point. -/
module

public import proofs.«01_k».proof.Proof.AttnReads
public import proofs.«01_k».proof.Proof.AttnRefParts
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The word of the middle blocks' test. -/
theorem mid_word (r : Fin 128) (i : Fin 384) :
    IntOp.cmpi CmpIPredicate.sle
        (IntOp.absi (IntOp.subi (IntOp.subi (BitVec.ofNat 32 i.val) 128#32) (BitVec.ofNat 32 r.val))) 128#32
      = if r.val ≤ i.val ∧ i.val ≤ r.val + 256 then 1#1 else 0#1 :=
  Cert.AttnRefIdeal.Value.band_word r i

/-- The word of the test against the sequence's start. -/
theorem start_word : ∀ i : Fin 384, IntOp.cmpi CmpIPredicate.sge (BitVec.ofNat 32 i.val) 128#32 = if 128 ≤ i.val then 1#1 else 0#1 := by
  decide +kernel

/-- The word of the test against the sequence's end. -/
theorem end_word : ∀ i : Fin 384, IntOp.cmpi CmpIPredicate.slt (BitVec.ofNat 32 i.val) 256#32 = if i.val < 256 then 1#1 else 0#1 := by
  decide +kernel

/-- The word of the first block's test. -/
theorem first_word (r : Fin 128) (i : Fin 384) :
    IntOp.andi (IntOp.cmpi CmpIPredicate.sle
        (IntOp.absi (IntOp.subi (IntOp.subi (BitVec.ofNat 32 i.val) 128#32) (BitVec.ofNat 32 r.val))) 128#32)
        (IntOp.cmpi CmpIPredicate.sge (BitVec.ofNat 32 i.val) 128#32)
      = if 128 ≤ i.val ∧ r.val ≤ i.val ∧ i.val ≤ r.val + 256 then 1#1 else 0#1 := by
  rw [mid_word, start_word]
  by_cases h1 : r.val ≤ i.val ∧ i.val ≤ r.val + 256 <;> by_cases h2 : 128 ≤ i.val <;>
    simp only [h1, h2, if_true, if_false, and_self, and_true, true_and, and_false, false_and] <;> decide

/-- The word of the last block's test. -/
theorem last_word (r : Fin 128) (i : Fin 384) :
    IntOp.andi (IntOp.cmpi CmpIPredicate.sle
        (IntOp.absi (IntOp.subi (IntOp.subi (BitVec.ofNat 32 i.val) 128#32) (BitVec.ofNat 32 r.val))) 128#32)
        (IntOp.cmpi CmpIPredicate.slt (BitVec.ofNat 32 i.val) 256#32)
      = if i.val < 256 ∧ r.val ≤ i.val ∧ i.val ≤ r.val + 256 then 1#1 else 0#1 := by
  rw [mid_word, end_word]
  by_cases h1 : r.val ≤ i.val ∧ i.val ≤ r.val + 256 <;> by_cases h2 : i.val < 256 <;>
    simp only [h1, h2, if_true, if_false, and_self, and_true, true_and, and_false, false_and] <;> decide

/-- What the buffers hold after the host's own operations, before the call of its selection. -/
def W (c : Dev nD) : Valuation τ sig (Elt Ideal) := StableHlo.after hostOps0 (fun b => m (c, b))

/-- The table of masks, in the buffer the kernel reads: the words' selection between nought and −∞. -/
theorem v43 (c : Dev nD) : V m c main_v43 = select (W m c (Proc.devRef .tc main_v42) : (⟨S3x128x384, .i1⟩ : BufTy).Contents (Elt Ideal))
    (broadcastInDim S3x128x384 ![] bcast_S_S3x128x384 (W m c (Proc.devRef .tc main_cst_5) : FVec Ideal S_ .f32))
    (broadcastInDim S3x128x384 ![] bcast_S_S3x128x384 (W m c (Proc.devRef .tc main_cst_6) : FVec Ideal S_ .f32)) := by
  unfold V
  rw [List.flatten_cons, StableHlo.after_append, List.flatten_cons, List.flatten_nil, List.append_nil]
  change StableHlo.after hostOps0_1 (W m c) _ = _
  generalize W m c = U
  after_results
  rfl

/-- The host's last operations leave the first table's words as they were. -/
theorem kept39 (U : Valuation τ sig (Elt Ideal)) : StableHlo.after (List.drop 49 (hostOps0 (F := Ideal))) U (Proc.devRef .tc main_v39) = U (Proc.devRef .tc main_v39) := by
  simp only [List.drop_succ_cons, List.drop_zero]
  after_results

/-- So with the second table. -/
theorem kept40 (U : Valuation τ sig (Elt Ideal)) : StableHlo.after (List.drop 49 (hostOps0 (F := Ideal))) U (Proc.devRef .tc main_v40) = U (Proc.devRef .tc main_v40) := by
  simp only [List.drop_succ_cons, List.drop_zero]
  after_results

/-- So with the third table. -/
theorem kept41 (U : Valuation τ sig (Elt Ideal)) : StableHlo.after (List.drop 49 (hostOps0 (F := Ideal))) U (Proc.devRef .tc main_v41) = U (Proc.devRef .tc main_v41) := by
  simp only [List.drop_succ_cons, List.drop_zero]
  after_results

/-- The three tables of words laid one after another. -/
def words (x y z : (⟨S1x128x384, .i1⟩ : BufTy).Contents (Elt Ideal)) : (⟨S3x128x384, .i1⟩ : BufTy).Contents (Elt Ideal) :=
  concatenate S3x128x384 0 [⟨S1x128x384, x⟩, ⟨S1x128x384, y⟩, ⟨S1x128x384, z⟩] concatenates_S1x128x384_S1x128x384_S1x128x384_S3x128x384_d0

/-- The words of the three tables, after the host's operations. -/
theorem w42 (c : Dev nD) : W m c (Proc.devRef .tc main_v42)
    = words (W m c (Proc.devRef .tc main_v39)) (W m c (Proc.devRef .tc main_v40)) (W m c (Proc.devRef .tc main_v41)) := by
  unfold W
  rw [← List.take_append_drop 49 (hostOps0 (F := Ideal)), StableHlo.after_append]
  generalize StableHlo.after (List.take 49 (hostOps0 (F := Ideal))) _ = U
  rw [kept39, kept40, kept41]
  simp only [List.drop_succ_cons, List.drop_zero]
  after_results
  rfl

/-- The first block's table of words. -/
theorem w39 (c : Dev nD) (r : Fin 128) (i : Fin 384) : W m c (Proc.devRef .tc main_v39) (ix3 0 r i) = if 128 ≤ i.val ∧ r.val ≤ i.val ∧ i.val ≤ r.val + 256 then 1#1 else 0#1 := by
  unfold W
  entry_read
  pointwise
  exact first_word r i

/-- The middle blocks' table of words. -/
theorem w40 (c : Dev nD) (r : Fin 128) (i : Fin 384) : W m c (Proc.devRef .tc main_v40) (ix3 0 r i) = if r.val ≤ i.val ∧ i.val ≤ r.val + 256 then 1#1 else 0#1 := by
  unfold W
  entry_read
  pointwise
  exact mid_word r i

/-- The last block's table of words. -/
theorem w41 (c : Dev nD) (r : Fin 128) (i : Fin 384) : W m c (Proc.devRef .tc main_v41) (ix3 0 r i) = if i.val < 256 ∧ r.val ≤ i.val ∧ i.val ≤ r.val + 256 then 1#1 else 0#1 := by
  unfold W
  entry_read
  pointwise
  exact last_word r i

/-- The first table's words among the three. -/
theorem words0 (x y z : (⟨S1x128x384, .i1⟩ : BufTy).Contents (Elt Ideal)) (r : Fin 128) (i : Fin 384) : words x y z (ix3 0 r i) = x (ix3 0 r i) := by
  unfold words
  pointwise

/-- The second table's words among the three. -/
theorem words1 (x y z : (⟨S1x128x384, .i1⟩ : BufTy).Contents (Elt Ideal)) (r : Fin 128) (i : Fin 384) : words x y z (ix3 1 r i) = y (ix3 0 r i) := by
  unfold words
  pointwise

/-- The third table's words among the three. -/
theorem words2 (x y z : (⟨S1x128x384, .i1⟩ : BufTy).Contents (Elt Ideal)) (r : Fin 128) (i : Fin 384) : words x y z (ix3 2 r i) = z (ix3 0 r i) := by
  unfold words
  pointwise

/-- The host's nought. -/
theorem wnought (c : Dev nD) (i : S_.Idx) : W m c (Proc.devRef .tc main_cst_5) i = (0 : EReal) := by
  unfold W
  entry_read
  show Ideal.ofBits FTy.f32 0x00000000#32 = 0
  simp [Ideal.ofBits, Ideal.ieee]

/-- The host's −∞. -/
theorem wbottom (c : Dev nD) (i : S_.Idx) : W m c (Proc.devRef .tc main_cst_6) i = (⊥ : EReal) := by
  unfold W
  entry_read
  show Ideal.ofBits FTy.f32 0xFF800000#32 = ⊥
  simp [Ideal.ofBits, Ideal.ieee]

/-- Every point reads the whole table of masks: nought where a row may look and −∞ elsewhere. -/
theorem read6 (c : Dev nD) (p : Fin cfg0.N) (n : Fin 16) (r : Fin 128) (i : Fin 384) :
    iblk m c 6 p (ix3 (tableOf n) r i) = if Cert.AttnSpec.allowed n r i then (0 : EReal) else ⊥ := by
  obtain ⟨i0, i1, i2, i3, i4, i5, i6, i7⟩ := idx p
  have he : ∀ s : Fin 3, (win0_6.blk p).view.emb (ix3 s r i) = ix3 s r i := fun s => by
    blk_ext [i6]
  show V m c main_v43 ((win0_6.blk p).view.emb (ix3 (tableOf n) r i)) = _
  rw [he, v43, w42]
  show Scalar.select (words _ _ _ (ix3 (tableOf n) r i)) (W m c (Proc.devRef .tc main_cst_5) _) (W m c (Proc.devRef .tc main_cst_6) _) = _
  rw [wnought, wbottom]
  unfold tableOf
  have hn := n.isLt
  have hi := i.isLt
  by_cases h0 : n.val = 0
  · rw [if_pos h0, words0, w39]
    by_cases hc : 128 ≤ i.val ∧ r.val ≤ i.val ∧ i.val ≤ r.val + 256
    · rw [if_pos hc, if_pos (show Cert.AttnSpec.allowed n r i from ⟨by omega, by omega⟩)]; rfl
    · rw [if_neg hc, if_neg (show ¬ Cert.AttnSpec.allowed n r i from fun ha => hc (by obtain ⟨ha1, ha2⟩ := ha; omega))]; rfl
  · by_cases h1 : n.val = 15
    · rw [if_neg h0, if_pos h1, words2, w41]
      by_cases hc : i.val < 256 ∧ r.val ≤ i.val ∧ i.val ≤ r.val + 256
      · rw [if_pos hc, if_pos (show Cert.AttnSpec.allowed n r i from ⟨by omega, by omega⟩)]; rfl
      · rw [if_neg hc, if_neg (show ¬ Cert.AttnSpec.allowed n r i from fun ha => hc (by obtain ⟨ha1, ha2⟩ := ha; omega))]; rfl
    · rw [if_neg h0, if_neg h1, words1, w40]
      by_cases hc : r.val ≤ i.val ∧ i.val ≤ r.val + 256
      · rw [if_pos hc, if_pos (show Cert.AttnSpec.allowed n r i from ⟨by omega, by omega⟩)]; rfl
      · rw [if_neg hc, if_neg (show ¬ Cert.AttnSpec.allowed n r i from fun ha => hc (by obtain ⟨ha1, ha2⟩ := ha; omega))]; rfl

end Cert.AttnIdeal.Value

end
-- ==== Proof.AttnJoin.lean ====
/- The attention kernel's result over the whole array: at every index the windowed attention of the arguments. -/
module

public import proofs.«01_k».proof.Proof.AttnBlock
public import proofs.«01_k».proof.Proof.AttnRow
public import proofs.«01_k».proof.Proof.AttnReads
public import proofs.«01_k».proof.Proof.AttnMask
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- A padded array at a place of a block's window. -/
theorem padRows_at (x : Fin 2048 → Fin 128 → EReal) (n : Fin 16) (i : Fin 384) (l : Fin 128) :
    padRows x (ix2 ⟨128 * n.val + i.val, by omega⟩ l) = Cert.AttnSpec.padded (fun p => x p l) (128 * n.val + i.val) := rfl

/-- A padded sequence of reals is real. -/
theorem padded_real (f : Fin 2048 → EReal) (hf : ∀ p, ∃ a : ℝ, f p = a) (p : ℕ) : ∃ a : ℝ, Cert.AttnSpec.padded f p = a := by
  unfold Cert.AttnSpec.padded
  split
  · exact hf _
  · exact ⟨0, EReal.coe_zero.symm⟩

/-- The windowed attention of the arguments. -/
def attnSpec (c : Dev nD) (b : Fin 8) (n : Fin 16) (r : Fin 128) (g : Fin 4) (h : Fin 2) (d : Fin 64) : EReal :=
  Cert.AttnSpec.attn (fun b p a e => arr0 m c (ix4 b p a e)) (fun b p a e => arr1 m c (ix4 b p a e)) (fun b p a e => arr2 m c (ix4 b p a e))
    (fun b p a e => arr3 m c (ix4 b p a e)) (fun b p a e => arr4 m c (ix4 b p a e)) (fun a => arr5 m c (ix1 a)) b n r g h d

/-- The padded values of a half of the lanes, at its own lanes. -/
theorem vals_at (c : Dev nD) (p : Fin cfg0.N) (b : Fin 8) (hb : p.val = b.val) (n : Fin 16) (i : Fin 384) (h : Fin 2) (d : Fin 64) :
    (if h = 0 then padRows fun r l => if l.val < 64 then iblk m c 3 p (ix3 0 r l) else 1
      else padRows fun r l => if l.val < 64 then 1 else iblk m c 3 p (ix3 0 r l)) (ix2 ⟨128 * n.val + i.val, by omega⟩ (lane h d))
      = Cert.AttnSpec.padded (fun p => arr2 m c (ix4 b p h d)) (128 * n.val + i.val) := by
  match h with
  | 0 =>
    rw [if_pos rfl]
    refine (padRows_at _ n i _).trans (congrArg (fun f => Cert.AttnSpec.padded f _) (funext fun q => ?_))
    have hl : (lane 0 d).val < 64 := by show 64 * 0 + d.val < 64; omega
    rw [if_pos hl]
    exact read3 m c p b hb q 0 d
  | 1 =>
    rw [if_neg (by decide)]
    refine (padRows_at _ n i _).trans (congrArg (fun f => Cert.AttnSpec.padded f _) (funext fun q => ?_))
    have hl : ¬ (lane 1 d).val < 64 := by show ¬ 64 * 1 + d.val < 64; omega
    rw [if_neg hl]
    exact read3 m c p b hb q 1 d

/-- The other half's lanes hold one wherever a row may look. -/
theorem ones_at (c : Dev nD) (p : Fin cfg0.N) (n : Fin 16) {r : Fin 128} (i : Fin 384) (h : Fin 2) (d : Fin 64) :
    (if h = 0 then padRows fun r l => if l.val < 64 then iblk m c 3 p (ix3 0 r l) else 1
      else padRows fun r l => if l.val < 64 then 1 else iblk m c 3 p (ix3 0 r l)) (ix2 ⟨128 * n.val + i.val, by omega⟩ (lane (1 - h) d)) = (1 : EReal)
      ∨ ¬ Cert.AttnSpec.allowed n r i := by
  by_cases hc : 128 ≤ 128 * n.val + i.val ∧ 128 * n.val + i.val < 2176
  · left
    match h with
    | 0 =>
      rw [if_pos rfl, padRows_at]
      unfold Cert.AttnSpec.padded
      rw [dif_pos hc]
      exact if_neg (by show ¬ 64 * 1 + d.val < 64; omega)
    | 1 =>
      rw [if_neg (by decide), padRows_at]
      unfold Cert.AttnSpec.padded
      rw [dif_pos hc]
      exact if_pos (by show 64 * 0 + d.val < 64; omega)
  · exact Or.inr fun ha => hc ha.1

/-- A row's value depends on its scores and values alone. -/
theorem rowVal_congr {s s' vw vw' o : Fin 384 → EReal} {t t' vc vc' oc : Fin 256 → EReal} {z z' : EReal} (h1 : ∀ i, s i = s' i)
    (h2 : ∀ i, t i = t' i) (h3 : z = z') (h4 : ∀ i, vw i = vw' i) (h5 : ∀ i, vc i = vc' i) :
    rowVal s t z vw o vc oc = rowVal s' t' z' vw' o vc' oc := by
  rw [funext h1, funext h2, h3, funext h4, funext h5]

set_option maxHeartbeats 2000000 in
/-- One element of the kernel's block is the windowed attention of its batch. -/
theorem attnAt_eq (c : Dev nD) (hq : ∀ i, ∃ a : ℝ, arr0 m c i = a) (hk : ∀ i, ∃ a : ℝ, arr1 m c i = a) (hkc : ∀ i, ∃ a : ℝ, arr3 m c i = a)
    (hs : ∀ i, ∃ a : ℝ, arr5 m c i = a) (p : Fin cfg0.N) (b : Fin 8) (hb : p.val = b.val)
    (n : Fin 16) (r : Fin 128) (j : Fin 4) (h : Fin 2) (d : Fin 64) :
    attnAt (iblk m c 1 p) (iblk m c 6 p) (padRows fun r l => iblk m c 2 p (ix3 0 r l))
        (padRows fun r l => if l.val < 64 then iblk m c 3 p (ix3 0 r l) else 1)
        (padRows fun r l => if l.val < 64 then 1 else iblk m c 3 p (ix3 0 r l)) (iblk m c 4 p) (iblk m c 5 p) (iblk m c 0 p) n r j h d
      = attnSpec m c b n r j h d := by
  have e1 : ∀ e : Fin 64, iblk m c 1 p (ix3 0 (⟨128 * n.val + r.val, by omega⟩ : Fin 2048) (⟨128 * j.val + (lane h e).val, by omega⟩ : Fin 512)) = _ :=
    fun e => read1 m c p b hb ⟨128 * n.val + r.val, by omega⟩ j h e
  have e2 : ∀ (i : Fin 384) (e : Fin 64), padRows (fun r l => iblk m c 2 p (ix3 0 r l)) (ix2 ⟨128 * n.val + i.val, by omega⟩ (lane h e))
      = Cert.AttnSpec.padded (fun p => arr1 m c (ix4 b p h e)) (128 * n.val + i.val) := fun i e =>
    (padRows_at _ n i _).trans (congrArg (fun f => Cert.AttnSpec.padded f _) (funext fun q => read2 m c p b hb q h e))
  unfold attnAt
  refine Eq.trans ?_ (kernel_row (fun e => arr0 m c (ix4 b ⟨128 * n.val + r.val, by omega⟩ ⟨4 * h.val + j.val, by omega⟩ e))
    (fun i e => Cert.AttnSpec.padded (fun p => arr1 m c (ix4 b p h e)) (128 * n.val + i.val))
    (fun i e => arr3 m c (ix4 b i h e)) (arr5 m c (ix1 ⟨4 * h.val + j.val, by omega⟩))
    (fun e => hq _) (fun i e => padded_real _ (fun q => hk _) _) (fun i e => hkc _) (hs _)
    (Cert.AttnSpec.allowed n r)
    (fun i => Cert.AttnSpec.padded (fun p => arr2 m c (ix4 b p h d)) (128 * n.val + i.val))
    (fun i => (if h = 0 then padRows fun r l => if l.val < 64 then iblk m c 3 p (ix3 0 r l) else 1
      else padRows fun r l => if l.val < 64 then 1 else iblk m c 3 p (ix3 0 r l)) (ix2 ⟨128 * n.val + i.val, by omega⟩ (lane (1 - h) d)))
    (fun i => arr4 m c (ix4 b i h d)) ?_)
  · refine rowVal_congr (fun i => ?_) (fun i => ?_) ?_ (fun i => ?_) (fun i => ?_)
    · exact congrArg₂ (· + ·) (Finset.sum_congr rfl fun e _ => congrArg₂ (· * ·) (e1 e) (e2 i e)) (read6 m c p n r i)
    · exact Finset.sum_congr rfl fun e _ => congrArg₂ (· * ·) (e1 e) (read4 m c p b hb i h e)
    · refine (read0 m c p _).trans (congrArg (fun a => arr5 m c (ix1 a) * ((Cert.SoftmaxMath.c2 : ℝ) : EReal)) (Fin.ext ?_))
      show j.val + 4 * h.val = 4 * h.val + j.val
      omega
    · exact vals_at m c p b hb n i h d
    · exact read5 m c p b hb i h d
  · exact fun i => ones_at m c p n i h d

/-- The windowed attention of the arguments, laid out as the kernel's result. -/
def attnArr (c : Dev nD) : S8x2048x512.Idx → EReal := fun y =>
  have h0 : (y 0).val < 8 := (y 0).isLt
  have h1 : (y 1).val < 2048 := (y 1).isLt
  have h2 : (y 2).val < 512 := (y 2).isLt
  attnSpec m c ⟨(y 0).val, h0⟩ ⟨(y 1).val / 128, by omega⟩ ⟨(y 1).val % 128, by omega⟩ ⟨(y 2).val / 128, by omega⟩
    ⟨(y 2).val / 64 % 2, by omega⟩ ⟨(y 2).val % 64, by omega⟩

/-- The kernel's result, over the whole array. -/
theorem result_eq (c : Dev nD) (hq : ∀ i, ∃ a : ℝ, arr0 m c i = a) (hk : ∀ i, ∃ a : ℝ, arr1 m c i = a) (hkc : ∀ i, ∃ a : ℝ, arr3 m c i = a)
    (hs : ∀ i, ∃ a : ℝ, arr5 m c i = a) : (dats m 0 c).arrAt 7 cfg0.N = attnArr m c := by
  refine (dats m 0 c).arrAt_eq_of_covers 7 _ (by decide +kernel) fun t hf y => ?_
  blk_simp
  rw [after0_7]
  obtain ⟨i0, i1, i2, i3, i4, i5, i6, i7⟩ := idx t
  idx_vars y
  obtain rfl : y0 = 0 := Subsingleton.elim _ _
  have hN : t.val < 8 := t.isLt
  have he : (win0_7.blk t).view.emb (ix3 0 y1 y2) = ix3 (⟨t.val, hN⟩ : Fin 8) y1 y2 := by
    blk_ext [i7]
  rw [he]
  refine (block m c t (ix3 0 y1 y2)).trans ?_
  unfold attnOut attnArr
  refine (attnAt_eq m c hq hk hkc hs t ⟨t.val, hN⟩ rfl _ _ _ _ _).trans ?_
  show attnSpec m c _ _ _ _ _ _ = attnSpec m c _ _ _ _ _ _
  congr 1
  exact Fin.ext (by show y2.val % 128 / 64 = y2.val / 64 % 2; omega)

end Cert.AttnIdeal.Value

end
-- ==== Proof.AttnPre.lean ====
/- What the precondition says: the queries, the keys, the context's keys and the sinks are real numbers. -/
module

public import proofs.«01_k».proof.Defs
public import proofs.«01_k».proof.Proof.AttnRow
public import Idealize.ShloMosaic.Lib.ReduceAll

@[expose] public section

noncomputable section

namespace Cert.AttnIdeal.Value

open Cert.AttnIdeal Idealize.ShloMosaic Idealize.ShloMosaic.TcCoe Idealize.SL.Sem

/-- An element whose absolute value is below infinity is a real number. -/
theorem real_of_olt (x : EReal) (h : FloatOps.cmpf (F := Ideal) (φ := .f32) CmpFPredicate.olt (FloatOps.hostAbsf (F := Ideal) (φ := .f32) x) (Ideal.ofBits .f32 0x7F800000#32) = 1#1) :
    ∃ a : ℝ, x = (a : EReal) := by
  have hinf : Ideal.ofBits .f32 0x7F800000#32 = ⊤ := by
    simp [Ideal.ofBits, Ideal.ieee]
  rw [hinf] at h
  have hlt : max x (-x) < ⊤ := by
    by_contra hn
    have h0 : (BitVec.ofBool (decide (max x (-x) < ⊤))) = 1#1 := h
    rw [decide_eq_false hn] at h0
    exact absurd h0 (by decide)
  obtain ⟨h1, h2⟩ := max_lt_iff.1 hlt
  refine real_of_abs h1.ne (fun hx => ?_)
  rw [hx, EReal.neg_bot] at h2
  exact absurd h2 (lt_irrefl _)

/-- An array of no axes has one index. -/
instance : Subsingleton Cert.Pre_finite_scores.S_.Idx := ⟨fun a b => by funext i; exact i.elim0⟩

/-- The precondition's conjuncts, element by element. -/
theorem pre_real [hP : Cert.Pre_finite_scores.Facts] (q : Cert.Pre_finite_scores.S8x2048x8x64.Idx → EReal) (k v : Cert.Pre_finite_scores.S8x2048x2x64.Idx → EReal)
    (kc vc : Cert.Pre_finite_scores.S8x256x2x64.Idx → EReal) (s : Cert.Pre_finite_scores.S8.Idx → EReal)
    (h : Cert.Pre_finite_scores.fn (F := Ideal) q k v kc vc s = fun _ => 1#1) :
    (∀ i, ∃ a : ℝ, q i = a) ∧ (∀ i, ∃ a : ℝ, k i = a) ∧ (∀ i, ∃ a : ℝ, kc i = a) ∧ (∀ i, ∃ a : ℝ, s i = a) := by
  have h0 := congrFun h (fun a => a.elim0)
  dsimp only [Cert.Pre_finite_scores.fn, Cert.Pre_finite_scores.fn_part1] at h0
  obtain ⟨h1, h2⟩ := IntOp.andi_eq_one.1 h0
  obtain ⟨h3, h4⟩ := IntOp.andi_eq_one.1 h1
  obtain ⟨h5, h6⟩ := IntOp.andi_eq_one.1 h3
  refine ⟨fun i => ?_, fun i => ?_, fun i => ?_, fun i => ?_⟩
  · exact real_of_olt _ (Host.reduce_andi_all _ _ _ _ _ h5 i)
  · exact real_of_olt _ (Host.reduce_andi_all _ _ _ _ _ h6 i)
  · exact real_of_olt _ (Host.reduce_andi_all _ _ _ _ _ h4 i)
  · exact real_of_olt _ (Host.reduce_andi_all _ _ _ _ _ h2 i)

end Cert.AttnIdeal.Value

end
-- ==== Proof.AttnRefValue.lean ====
/- The attention reference is the windowed attention of its arguments. -/
module

public import proofs.«01_k».proof.Proof.AttnRefParts
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.AttnRefIdeal.Value

open Cert.AttnRefIdeal Cert.AttnRefIdeal.Gen Idealize.ShloMosaic Idealize.ShloMosaic.TcCoe Idealize.SL.Sem

/-- The greatest of a row and −∞. -/
theorem floor_at (z : FVec Ideal S8x16x2x4x128 .f32) (b : Fin 8) (n : Fin 16) (h : Fin 2) (g : Fin 4) (r : Fin 128) :
    maximumf (broadcastInDim S8x16x2x4x128 ![] bcast_S_S8x16x2x4x128 (constant S_ .f32 0xFF800000#32)) z (ix5 b n h g r)
      = max (Ideal.ofBits FTy.f32 4286578688#32) (z (ix5 b n h g r)) := by
  pointwise

/-- The exponential of a difference. -/
theorem exp_sub_at (z w : FVec Ideal S8x16x2x4x128x641 .f32) (b : Fin 8) (n : Fin 16) (h : Fin 2) (g : Fin 4) (r : Fin 128) (i : Fin 641) :
    Host.exp (subf z w) (ix6 b n h g r i) = Ideal.exp (z (ix6 b n h g r i) - w (ix6 b n h g r i)) := rfl

/-- A row's number at every place of the row. -/
theorem spread_at (z : FVec Ideal S8x16x2x4x128 .f32) (b : Fin 8) (n : Fin 16) (h : Fin 2) (g : Fin 4) (r : Fin 128) (i : Fin 641) :
    (broadcastInDim S8x16x2x4x128x641 ![0, 1, 2, 3, 4, 5] bcast_S8x16x2x4x128x1_S8x16x2x4x128x641_0_1_2_3_4_5 (broadcastInDim S8x16x2x4x128x1 ![0, 1, 2, 3, 4] bcast_S8x16x2x4x128_S8x16x2x4x128x1_0_1_2_3_4 z)) (ix6 b n h g r i)
      = z (ix5 b n h g r) := by
  pointwise

/-- An exponential of a row. -/
theorem exps_at (z : FVec Ideal S8x16x2x4x128x641 .f32) (b : Fin 8) (n : Fin 16) (h : Fin 2) (g : Fin 4) (r : Fin 128) (i : Fin 641) :
    exps z (ix6 b n h g r i) = Ideal.exp (z (ix6 b n h g r i) - tops z (ix5 b n h g r)) := by
  unfold exps
  rw [exp_sub_at, spread_at, floor_at, bottom, max_eq_right bot_le]

/-- The three kinds of scores of a row side by side. -/
def glued (s : Fin 384 → EReal) (t : Fin 256 → EReal) (z : EReal) (i : Fin 641) : EReal :=
  if h1 : i.val < 384 then s ⟨i.val, h1⟩ else if h2 : i.val - 384 < 256 then t ⟨i.val - 384, h2⟩ else z

theorem glued_win (s : Fin 384 → EReal) (t : Fin 256 → EReal) (z : EReal) (x : Fin 384) :
    glued s t z ⟨x.val, by omega⟩ = s x := by
  unfold glued
  rw [dif_pos x.isLt]

theorem glued_ctx (s : Fin 384 → EReal) (t : Fin 256 → EReal) (z : EReal) (x : Fin 256) :
    glued s t z ⟨384 + x.val, by omega⟩ = t x := by
  unfold glued
  rw [dif_neg (by simp only; omega), dif_pos (by simp only; omega)]
  exact congrArg t (Fin.ext (by simp only; omega))

theorem glued_last (s : Fin 384 → EReal) (t : Fin 256 → EReal) (z : EReal) : glued s t z ⟨640, by omega⟩ = z := by
  unfold glued
  rw [dif_neg (by simp only; omega), dif_neg (by simp only; omega)]

/-- A sum over a row is the sum over its three parts. -/
theorem sum_parts (f : Fin 641 → EReal) :
    ∑ i, f i = ∑ x : Fin 384, f ⟨x.val, by omega⟩ + ∑ x : Fin 256, f ⟨384 + x.val, by omega⟩ + f ⟨640, by omega⟩ := by
  rw [Fin.sum_univ_castSucc (n := 640) f]
  exact congrArg (· + _) (Fin.sum_univ_add (a := 384) (b := 256) fun i : Fin (384 + 256) => f i.castSucc)

/-- The greatest of a row is the greatest of its three parts. -/
theorem fold_parts (s : Fin 384 → EReal) (t : Fin 256 → EReal) (z : EReal) :
    Finset.univ.fold max (⊥ : EReal) (glued s t z)
      = max (max (Finset.univ.fold max (⊥ : EReal) s) (Finset.univ.fold max (⊥ : EReal) t)) z := by
  apply le_antisymm
  · rw [Finset.fold_max_le]
    refine ⟨bot_le, fun i _ => ?_⟩
    unfold glued
    split
    · exact (Finset.le_fold_max _ |>.2 (Or.inr ⟨_, Finset.mem_univ _, le_rfl⟩)).trans ((le_max_left _ _).trans (le_max_left _ _))
    · split
      · exact (Finset.le_fold_max _ |>.2 (Or.inr ⟨_, Finset.mem_univ _, le_rfl⟩)).trans ((le_max_right _ _).trans (le_max_left _ _))
      · exact le_max_right _ _
  · refine max_le (max_le ?_ ?_) ?_
    · rw [Finset.fold_max_le]
      exact ⟨bot_le, fun i _ => Finset.le_fold_max _ |>.2 (Or.inr ⟨_, Finset.mem_univ _, (glued_win s t z i).ge⟩)⟩
    · rw [Finset.fold_max_le]
      exact ⟨bot_le, fun i _ => Finset.le_fold_max _ |>.2 (Or.inr ⟨_, Finset.mem_univ _, (glued_ctx s t z i).ge⟩)⟩
    · exact Finset.le_fold_max _ |>.2 (Or.inr ⟨_, Finset.mem_univ _, (glued_last s t z).ge⟩)

/-- The reference at an index of its result, as the windowed attention of its arguments. -/
theorem whole_at (q : FVec Ideal S8x2048x8x64 .f32) (k v : FVec Ideal S8x2048x2x64 .f32) (kc vc : FVec Ideal S8x256x2x64 .f32)
    (s : FVec Ideal S8 .f32) (b : Fin 8) (t : Fin 2048) (l : Fin 512) :
    whole q k v kc vc s (ix3 b t l) = Cert.AttnSpec.attn (fun b p a e => q (ix4 b p a e)) (fun b p a e => k (ix4 b p a e))
      (fun b p a e => v (ix4 b p a e)) (fun b p a e => kc (ix4 b p a e)) (fun b p a e => vc (ix4 b p a e)) (fun a => s (ix1 a))
      b (⟨t.val / 128, by omega⟩ : Fin 16) (⟨t.val % 128, by omega⟩ : Fin 128) (⟨l.val / 128, by omega⟩ : Fin 4)
      (⟨l.val / 64 % 2, by omega⟩ : Fin 2) (⟨l.val % 64, by omega⟩ : Fin 64) := by
  unfold whole
  pointwise
  generalize hn : (⟨t.val / 128, by omega⟩ : Fin 16) = n
  generalize hr : (⟨t.val % 128, by omega⟩ : Fin 128) = r
  generalize hg : (⟨l.val / 128, by omega⟩ : Fin 4) = g
  generalize hh : (⟨l.val / 64 % 2, by omega⟩ : Fin 2) = h
  generalize hd : (⟨l.val % 64, by omega⟩ : Fin 64) = d
  rw [mixed_at]
  have hl : ∀ i : Fin 641, logits q k kc s (ix6 b n h g r i)
      = glued (fun i => winPart q k (ix6 b n h g r i)) (fun i => ctxPart q kc (ix6 b n h g r i)) (s (ix1 (⟨4 * h.val + g.val, by omega⟩ : Fin 8))) i := by
    intro i
    rw [logits_at]
    rfl
  simp only [probs_at, exps_at, totals_at, tops_at, hl, sum_parts, fold_parts, glued_win, glued_ctx, glued_last, bands_at, winPart_at, ctxPart_at]
  unfold Cert.AttnSpec.attn Cert.AttnSpec.softRow
  refine congrArg₂ (· + ·) (Finset.sum_congr rfl fun x _ => ?_) (Finset.sum_congr rfl fun x _ => ?_)
  · exact mul_comm _ _
  · exact mul_comm _ _

end Cert.AttnRefIdeal.Value

end
-- ==== Proof.AttnClaim.lean ====
module

public import proofs.«01_k».proof.Defs
public import proofs.«01_k».proof.Proof.AttnJoin
public import proofs.«01_k».proof.Proof.AttnPre
public import proofs.«01_k».proof.Proof.AttnRefValue

@[expose] public section

noncomputable section

namespace Cert.Proof

open Idealize.ShloMosaic Idealize.SL.Sem

/-- The reference's result, laid out as the kernel's. -/
theorem attn_ref_at (m : (ℓ : Loc Cert.AttnIdeal.nD Cert.AttnIdeal.τ Cert.AttnIdeal.sig) → Buf (Elt Ideal) ℓ) (c : Dev Cert.AttnIdeal.nD) :
    Cert.AttnRefIdeal.Value.whole (Cert.AttnIdeal.Value.arr0 m c) (Cert.AttnIdeal.Value.arr1 m c) (Cert.AttnIdeal.Value.arr2 m c)
      (Cert.AttnIdeal.Value.arr3 m c) (Cert.AttnIdeal.Value.arr4 m c) (Cert.AttnIdeal.Value.arr5 m c) = Cert.AttnIdeal.Value.attnArr m c := by
  funext y
  idx_vars y
  exact Cert.AttnRefIdeal.Value.whole_at _ _ _ _ _ _ y0 y1 y2

/-- The attention kernel and its reference end with the same result, from the same arguments, where the queries, both key
arrays and the sinks are finite. -/
theorem attn_equal [Cert.Pre_finite_scores.Facts] : Cert.algebraic_AttnIdeal_AttnRefIdeal_pre_finite_scores := by
  intro m g m' g' hpre hargs
  refine ⟨fun c => Cert.AttnIdeal.Value.attnArr m c, ?_, ?_⟩
  · refine (θ_run Cert.AttnIdeal.defs _ _).mono (fun r h c => ⟨(h c).1.trans ?_, (h c).2⟩)
      (Cert.AttnIdeal.Value.run_blocks m g)
    obtain ⟨hq, hk, hkc, hs⟩ := Cert.AttnIdeal.Value.pre_real _ _ _ _ _ _ (hpre c)
    exact Cert.AttnIdeal.Value.result_eq m c hq hk hkc hs
  · refine (θ_run Cert.AttnRefIdeal.defs _ _).mono (fun r h c => ⟨(h c).1.trans ?_, (h c).2⟩)
      (Cert.AttnRefIdeal.Value.run (F := Ideal) m' g')
    obtain ⟨e0, e1, e2, e3, e4, e5⟩ := hargs c
    refine (Cert.AttnRefIdeal.Value.res_whole m' c).trans ?_
    rw [e0, e1, e2, e3, e4, e5]
    exact attn_ref_at m c

end Cert.Proof

end
-- ==== Proof.ExpertsValue.lean ====
module

public import proofs.«01_k».proof.Proof.Gen.ExpertsIdeal.Value
public import proofs.«01_k».proof.Proof.Gen.ExpertsRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ExpertsIdeal.Value

open Cert.ExpertsIdeal Cert.ExpertsIdeal.Gen Idealize.ShloMosaic Idealize.ShloMosaic.TcCoe Idealize.SL.Sem
open Idealize.ShloMosaic.Pipeline (Dat)

variable (m : (ℓ : Loc nD τ sig) → Buf (Elt Ideal) ℓ)

/-- One hidden unit's part of an expert's output: `silu(gate) · up` at the unit, from one row and one column each. -/
def hid (x0 : Vec Ideal S1x2048x1024 .bf16) (x1 x2 : Vec Ideal S1x1024x512 .f32) (q : Fin 2048) (k : Fin 512) : EReal :=
  ((∑ l : Fin 1024, x0 (ix3 0 q l) * x1 (ix3 0 l k)) * Ideal.logistic (∑ l : Fin 1024, x0 (ix3 0 q l) * x1 (ix3 0 l k)))
    * (∑ l : Fin 1024, x0 (ix3 0 q l) * x2 (ix3 0 l k))

/-- What one grid point adds to the expert's output at row `q`, column `d`: the sum over its 512 hidden units. -/
def part (x0 : Vec Ideal S1x2048x1024 .bf16) (x1 x2 : Vec Ideal S1x1024x512 .f32) (x3 : Vec Ideal S1x512x1024 .f32)
    (q : Fin 2048) (d : Fin 1024) : EReal :=
  ∑ k : Fin 512, hid x0 x1 x2 q k * x3 (ix3 0 k d)

/-- Where the later stores cover an index, the earlier ones under them do not matter there. -/
theorem canon_drop {Val : EltTy → Type} {S : Shape} {e : EltTy} [∀ e, Nonempty (Val e)] (L L' : List (View.Piece Val S e)) (y : S.Idx)
    (h : ∃ p ∈ L, y ∈ p.1.set) : View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨p', hp, hy⟩ := h
      rcases List.mem_cons.1 hp with rfl | hp
      · exact absurd hy hm
      · exact ih ⟨p', hp, hy⟩

/-- Four stores that tile a buffer leave nothing of a fifth under them. -/
theorem canon_drop_fifth {Val : EltTy → Type} {S : Shape} {e : EltTy} [∀ e, Nonempty (Val e)] (p₁ p₂ p₃ p₄ q : View.Piece Val S e) (y : S.Idx)
    (w : Fin S.rank → ℕ) (h : View.Piece.tiledL [p₁, p₂, p₃, p₄] w = true) :
    View.canon [p₁, p₂, p₃, p₄, q] y = View.canon [p₁, p₂, p₃, p₄] y :=
  canon_drop [p₁, p₂, p₃, p₄] [q] y (View.cover_of_tiledL _ w h y)

set_option maxHeartbeats 2000000 in
/-- At the first grid point the carried sums are that point's own part. -/
theorem carry_A (c : Dev nD) (t : Fin cfg0.N) (h0 : t.val % 64 = 0) (q : Fin 2048) (d : Fin 1024) :
    (outsAt0 m c t.val t.isLt).2 (ix2 q d) = part (iblk m c 0 t) (iblk m c 1 t) (iblk m c 2 t) (iblk m c 3 t) q d := by
  rw [outsAt0_A m c t h0]
  unfold sout0_A_0
  frame_open
  simp (disch := decide) only [↓ View.readCov_skip, ↓ View.readCov_cons_toLoadRect, ↓ View.readCov_fill]
  frame_out
  clear h0
  generalize Scalar.cmpi .sgt (BitVec.ofNat 32 (grid0.coords t 1)) 0#32 = b
  generalize iblk m c 0 t = x0
  generalize iblk m c 1 t = x1
  generalize iblk m c 2 t = x2
  generalize iblk m c 3 t = x3
  refine (canon_drop_fifth (Val := Elt Ideal) (S := S2048x1024) _ _ _ _ _ _ S512x1024.size (by sl_kernel_rfl)).trans ?_
  canon_tiles x h
  all_goals idx_vars x
  all_goals unfold_payloads
  all_goals pointwise [part, hid]
  all_goals simp only [← h0, show _ = d from Fin.ext h1.symm, Fin.eta, Scalar.select, ite_self, zero_add]

/-- At any later grid point the carried sums are the point's part over what was carried, or over zero at an expert's first block. -/
theorem carry_B (c : Dev nD) (t : Fin cfg0.N) (h0 : ¬t.val % 64 = 0) (q : Fin 2048) (d : Fin 1024) :
    (outsAt0 m c t.val t.isLt).2 (ix2 q d) = Scalar.select (Scalar.cmpi .sgt (BitVec.ofNat 32 (grid0.coords t 1)) 0#32)
          ((outsAt0 m c (t.val - 1) (Nat.lt_of_le_of_lt (Nat.sub_le _ _) t.isLt)).2 (ix2 q d)) (0 : EReal)
        + part (iblk m c 0 t) (iblk m c 1 t) (iblk m c 2 t) (iblk m c 3 t) q d := by
  rw [outsAt0_B m c t h0]
  unfold sout0_B_0
  frame_open
  simp (disch := decide) only [↓ View.readCov_skip, ↓ View.readCov_cons_toLoadRect, ↓ View.readCov_fill]
  frame_out
  simp only [read_unread_whole]
  clear h0
  generalize Scalar.cmpi .sgt (BitVec.ofNat 32 (grid0.coords t 1)) 0#32 = b
  generalize (outsAt0 m c (t.val - 1) (Nat.lt_of_le_of_lt (Nat.sub_le _ _) t.isLt)).2 = X
  generalize iblk m c 0 t = x0
  generalize iblk m c 1 t = x1
  generalize iblk m c 2 t = x2
  generalize iblk m c 3 t = x3
  canon_tiles x h
  all_goals idx_vars x
  all_goals unfold_payloads
  all_goals pointwise [part, hid]
  all_goals simp only [← h0, show _ = d from Fin.ext h1.symm, Fin.eta]

/-- At the first grid point the output block is that point's own part. -/
theorem block_A (c : Dev nD) (t : Fin cfg0.N) (h0 : t.val % 64 = 0) (q : Fin 2048) (d : Fin 1024) :
    (outsAt0 m c t.val t.isLt).1 (ix3 0 q d) = part (iblk m c 0 t) (iblk m c 1 t) (iblk m c 2 t) (iblk m c 3 t) q d := by
  rw [outsAt0_A m c t h0]
  unfold out0_A_4
  frame_open
  simp (disch := decide) only [↓ View.readCov_skip, ↓ View.readCov_cons_toLoadRect, ↓ View.readCov_fill]
  frame_out
  clear h0
  generalize Scalar.cmpi .sgt (BitVec.ofNat 32 (grid0.coords t 1)) 0#32 = b
  generalize iblk m c 0 t = x0
  generalize iblk m c 1 t = x1
  generalize iblk m c 2 t = x2
  generalize iblk m c 3 t = x3
  canon_tiles x h
  all_goals idx_vars x
  all_goals unfold_payloads
  all_goals pointwise [part, hid]
  all_goals simp only [← h1, show _ = d from Fin.ext h2.symm, Fin.eta, Scalar.select, ite_self, zero_add]

/-- At any later grid point the output block is the point's part over what was carried, or over zero at an expert's first block. -/
theorem block_B (c : Dev nD) (t : Fin cfg0.N) (h0 : ¬t.val % 64 = 0) (q : Fin 2048) (d : Fin 1024) :
    (outsAt0 m c t.val t.isLt).1 (ix3 0 q d) = Scalar.select (Scalar.cmpi .sgt (BitVec.ofNat 32 (grid0.coords t 1)) 0#32)
          ((outsAt0 m c (t.val - 1) (Nat.lt_of_le_of_lt (Nat.sub_le _ _) t.isLt)).2 (ix2 q d)) (0 : EReal)
        + part (iblk m c 0 t) (iblk m c 1 t) (iblk m c 2 t) (iblk m c 3 t) q d := by
  rw [outsAt0_B m c t h0]
  unfold out0_B_4
  frame_open
  simp (disch := decide) only [↓ View.readCov_skip, ↓ View.readCov_cons_toLoadRect, ↓ View.readCov_fill]
  frame_out
  simp only [read_unread_whole]
  clear h0
  generalize Scalar.cmpi .sgt (BitVec.ofNat 32 (grid0.coords t 1)) 0#32 = b
  generalize (outsAt0 m c (t.val - 1) (Nat.lt_of_le_of_lt (Nat.sub_le _ _) t.isLt)).2 = X
  generalize iblk m c 0 t = x0
  generalize iblk m c 1 t = x1
  generalize iblk m c 2 t = x2
  generalize iblk m c 3 t = x3
  canon_tiles x h
  all_goals idx_vars x
  all_goals unfold_payloads
  all_goals pointwise [part, hid]
  all_goals simp only [← h1, show _ = d from Fin.ext h2.symm, Fin.eta]

/-- The kernel's test for an expert's first block, in closed form. -/
theorem first_block : ∀ t : Fin grid0.N, Scalar.cmpi .sgt (BitVec.ofNat 32 (grid0.coords t 1)) 0#32 = if t.val % 4 = 0 then 0#1 else 1#1 := by
  decide +kernel

/-- The carried sums after a point: its part, over what was carried unless the point is an expert's first. -/
theorem carry_step (c : Dev nD) (t : Fin cfg0.N) (q : Fin 2048) (d : Fin 1024) :
    (outsAt0 m c t.val t.isLt).2 (ix2 q d)
      = (if t.val % 4 = 0 then (0 : EReal) else (outsAt0 m c (t.val - 1) (Nat.lt_of_le_of_lt (Nat.sub_le _ _) t.isLt)).2 (ix2 q d))
        + part (iblk m c 0 t) (iblk m c 1 t) (iblk m c 2 t) (iblk m c 3 t) q d := by
  by_cases h0 : t.val % 64 = 0
  · rw [carry_A m c t h0, if_pos (by omega), zero_add]
  · rw [carry_B m c t h0, first_block t]
    congr 1
    split_ifs <;> rfl

/-- The output block after a point holds the carried sums. -/
theorem block_eq_carry (c : Dev nD) (t : Fin cfg0.N) (q : Fin 2048) (d : Fin 1024) :
    (outsAt0 m c t.val t.isLt).1 (ix3 0 q d) = (outsAt0 m c t.val t.isLt).2 (ix2 q d) := by
  by_cases h0 : t.val % 64 = 0
  · rw [carry_A m c t h0, block_A m c t h0]
  · rw [carry_B m c t h0, block_B m c t h0]

/-- At an expert's last point the output block is the sum of the parts of its four points. -/
theorem block_sum (c : Dev nD) (t : Fin cfg0.N) (ht : t.val % 4 = 3) (q : Fin 2048) (d : Fin 1024) :
    (outsAt0 m c t.val t.isLt).1 (ix3 0 q d)
      = ∑ s : Fin 4, (fun p : Fin cfg0.N => part (iblk m c 0 p) (iblk m c 1 p) (iblk m c 2 p) (iblk m c 3 p) q d)
          ⟨4 * (t.val / 4) + s.val, Pipeline.run_point_lt_of_flush t ht s⟩ := by
  rw [block_eq_carry]
  have h := Pipeline.eq_sum_fin_of_reset_step_of_flush (fun n h => (outsAt0 m c n h).2 (ix2 q d)) 4 (0 : EReal)
    (fun p : Fin cfg0.N => part (iblk m c 0 p) (iblk m c 1 p) (iblk m c 2 p) (iblk m c 3 p) q d)
    (fun t ht => by simpa only [if_pos ht] using carry_step m c t q d)
    (fun t ht => by simpa only [if_neg ht] using carry_step m c t q d) t ht
  rw [zero_add] at h
  exact h

/-- One hidden unit of an expert over the whole arrays. -/
def hidden (x : S16x2048x1024.Idx → EReal) (wg wu : S16x1024x2048.Idx → EReal) (e : Fin 16) (q : Fin 2048) (n : Fin 2048) : EReal :=
  ((∑ l : Fin 1024, x (ix3 e q l) * wg (ix3 e l n)) * Ideal.logistic (∑ l : Fin 1024, x (ix3 e q l) * wg (ix3 e l n)))
    * (∑ l : Fin 1024, x (ix3 e q l) * wu (ix3 e l n))

/-- An expert's output over the whole arrays: the gated hidden units through the down projection. -/
def expertOut (x : S16x2048x1024.Idx → EReal) (wg wu : S16x1024x2048.Idx → EReal) (wd : S16x2048x1024.Idx → EReal) :
    S16x2048x1024.Idx → EReal := fun i =>
  ∑ n : Fin 2048, hidden x wg wu (i 0) (i 1) n * wd (ix3 (i 0) n (i 2))

theorem idx : ∀ t : Fin grid0.N, win0_0.index t = ![t.val / 4, 0, 0] ∧ win0_1.index t = ![t.val / 4, 0, t.val % 4]
    ∧ win0_2.index t = ![t.val / 4, 0, t.val % 4] ∧ win0_3.index t = ![t.val / 4, t.val % 4, 0] ∧ win0_4.index t = ![t.val / 4, 0, 0] := by
  decide +kernel

/-- The block of the tokens at a point is the expert's own slice. -/
theorem read0 (c : Dev nD) (p : Fin cfg0.N) (e : Fin 16) (he : p.val / 4 = e.val) (q : Fin 2048) (l : Fin 1024) :
    iblk m c 0 p (ix3 0 q l) = m ((c.tc : Thread nD τ).loc main_arg0) (ix3 e q l) := by
  obtain ⟨i0, i1, i2, i3, i4⟩ := idx p
  blk_ext! [iblk, V, i0]

/-- The block of the gate weights at a point is 512 columns of the expert's slice. -/
theorem read1 (c : Dev nD) (p : Fin cfg0.N) (e : Fin 16) (he : p.val / 4 = e.val) (l : Fin 1024) (k : Fin 512) (n : Fin 2048)
    (hn : n.val = p.val % 4 * 512 + k.val) :
    iblk m c 1 p (ix3 0 l k) = m ((c.tc : Thread nD τ).loc main_arg1) (ix3 e l n) := by
  obtain ⟨i0, i1, i2, i3, i4⟩ := idx p
  rw [← V_main_arg1 m c]
  blk_ext [iblk, i1]

/-- The block of the up weights at a point is 512 columns of the expert's slice. -/
theorem read2 (c : Dev nD) (p : Fin cfg0.N) (e : Fin 16) (he : p.val / 4 = e.val) (l : Fin 1024) (k : Fin 512) (n : Fin 2048)
    (hn : n.val = p.val % 4 * 512 + k.val) :
    iblk m c 2 p (ix3 0 l k) = m ((c.tc : Thread nD τ).loc main_arg2) (ix3 e l n) := by
  obtain ⟨i0, i1, i2, i3, i4⟩ := idx p
  rw [← V_main_arg2 m c]
  blk_ext [iblk, i2]

/-- The block of the down weights at a point is 512 rows of the expert's slice. -/
theorem read3 (c : Dev nD) (p : Fin cfg0.N) (e : Fin 16) (he : p.val / 4 = e.val) (d : Fin 1024) (k : Fin 512) (n : Fin 2048)
    (hn : n.val = p.val % 4 * 512 + k.val) :
    iblk m c 3 p (ix3 0 k d) = m ((c.tc : Thread nD τ).loc main_arg3) (ix3 e n d) := by
  obtain ⟨i0, i1, i2, i3, i4⟩ := idx p
  rw [← V_main_arg3 m c]
  blk_ext [iblk, i3]

/-- The kernel's result array is the experts' output. -/
theorem result_eq (c : Dev nD) : (dats m 0 c).arrAt 4 cfg0.N
    = expertOut (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨i0, i1, i2, i3, i4⟩ := idx t
  idx_vars y
  obtain rfl : y0 = 0 := Subsingleton.elim _ _
  have hN : t.val < 64 := t.isLt
  have he : (win0_4.blk t).view.emb (ix3 0 y1 y2) = ix3 (⟨t.val / 4, by omega⟩ : Fin 16) y1 y2 := by blk_ext [i4]
  rw [block_sum m c t ((flush0_4 t).mp hf), he]
  unfold expertOut part hidden hid
  refine Fin.sum_mul_add_congr fun s k hl => ?_
  have e1 : (4 * (t.val / 4) + s.val) / 4 = t.val / 4 := by omega
  have e2 : (4 * (t.val / 4) + s.val) % 4 = s.val := by omega
  have hp : 4 * (t.val / 4) + s.val < cfg0.N := by show _ < 64; omega
  have r0 := fun l => read0 m c ⟨_, hp⟩ ⟨t.val / 4, by omega⟩ e1 y1 l
  have r1 := fun l => read1 m c ⟨_, hp⟩ ⟨t.val / 4, by omega⟩ e1 l k ⟨s.val * 512 + k.val, hl⟩ (by rw [e2])
  have r2 := fun l => read2 m c ⟨_, hp⟩ ⟨t.val / 4, by omega⟩ e1 l k ⟨s.val * 512 + k.val, hl⟩ (by rw [e2])
  have r3 := read3 m c ⟨_, hp⟩ ⟨t.val / 4, by omega⟩ e1 y2 k ⟨s.val * 512 + k.val, hl⟩ (by rw [e2])
  simp only [r0, r1, r2, r3]
  rfl

end Cert.ExpertsIdeal.Value

namespace Cert.ExpertsRefIdeal.Value

open Cert.ExpertsRefIdeal Cert.ExpertsRefIdeal.Gen Idealize.ShloMosaic Idealize.ShloMosaic.TcCoe Idealize.SL.Sem

/-- The reference's result as its run leaves it. -/
def refOut (x : FVec Ideal S16x2048x1024 .f32) (wg wu : FVec Ideal S16x1024x2048 .f32)
    (wd : FVec Ideal S16x2048x1024 .f32) : FVec Ideal S16x2048x1024 .bf16 :=
  truncf .bf16 (Host.dotGeneral dot_S16x2048x2048_S16x2048x1024_S16x2048x1024_2_1_1_2_0_0 none (mulf (mulf (Host.dotGeneral dot_S16x2048x1024_S16x1024x2048_S16x2048x2048_2_1_1_2_0_0 none x wg) (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (Host.dotGeneral dot_S16x2048x1024_S16x1024x2048_S16x2048x2048_2_1_1_2_0_0 none x wg)))))) (Host.dotGeneral dot_S16x2048x1024_S16x1024x2048_S16x2048x2048_2_1_1_2_0_0 none x wu)) wd) bitsLt_bf16_f32

/-- The reference's result, element by element, is the experts' output. -/
theorem reference_eq (x : FVec Ideal S16x2048x1024 .f32) (wg wu : FVec Ideal S16x1024x2048 .f32)
    (wd : FVec Ideal S16x2048x1024 .f32) : refOut x wg wu wd = Cert.ExpertsIdeal.Value.expertOut x wg wu wd := by
  funext i
  idx_vars i
  pointwise [refOut, Cert.ExpertsIdeal.Value.expertOut, Cert.ExpertsIdeal.Value.hidden]
  rfl

end Cert.ExpertsRefIdeal.Value

end
-- ==== Proof.ExpertsClaim.lean ====
module

public import proofs.«01_k».proof.Defs
public import proofs.«01_k».proof.Proof.ExpertsValue
public import proofs.«01_k».proof.Proof.Gen.Experts.Frame

@[expose] public section

noncomputable section

namespace Cert.Proof

open Idealize.ShloMosaic Idealize.SL.Sem

/-- The experts' reference leaves its arguments as they were, and it declares no semaphore. -/
theorem frame_expertsRef : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run m ρ)

/-- The experts' kernel and its reference end with the same result, from the same arguments. -/
theorem experts_equal : Cert.algebraic_ExpertsIdeal_ExpertsRefIdeal := by
  intro m g m' g' _ hargs
  refine ⟨fun c => Cert.ExpertsIdeal.Value.expertOut (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2))
    (m ((c.tc : Thread Cert.ExpertsIdeal.nD Cert.ExpertsIdeal.τ).loc Cert.ExpertsIdeal.main_arg3)), ?_, ?_⟩
  · exact (θ_run Cert.ExpertsIdeal.defs _ _).mono (fun r h c => ⟨(h c).1.trans (Cert.ExpertsIdeal.Value.result_eq m c), (h c).2⟩)
      (Cert.ExpertsIdeal.Value.run_blocks m g)
  · refine (θ_run Cert.ExpertsRefIdeal.defs _ _).mono (fun r h c => ⟨(h c).1.trans ?_, (h c).2⟩)
      (Cert.ExpertsRefIdeal.Value.run (F := Ideal) m' g')
    obtain ⟨e0, e1, e2, e3⟩ := hargs c
    refine (Cert.ExpertsRefIdeal.Value.reference_eq _ _ _ _).trans ?_
    rw [e0, e1, e2, e3]

end Cert.Proof

end
-- ==== Proof.ScatterBlock.lean ====
module

public import proofs.«01_k».proof.Proof.Gen.ScatterIdeal.Value
public import proofs.«01_k».proof.Proof.Gen.ScatterRefIdeal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.ScatterIdeal.Value

open Cert.ScatterIdeal Cert.ScatterIdeal.Gen Idealize.ShloMosaic Idealize.ShloMosaic.TcCoe Idealize.SL.Sem
open Idealize.ShloMosaic.Pipeline (Dat)

variable (m : (ℓ : Loc nD τ sig) → Buf (Elt Ideal) ℓ)

/-- What one expert adds at a position: its slot's row times the position's weight where the slot number is one of
the 256, and nothing elsewhere. -/
def contrib (p : BitVec 32) (w : EReal) (rows : Fin 256 → EReal) : EReal :=
  if h : 0 ≤ p.toInt ∧ p.toInt < 256 then rows ⟨p.toInt.toNat, by omega⟩ * w else 0

/-- The slot numbers below 256 are read back as they are. -/
theorem toInt_slot (r : Fin 256) : (BitVec.ofNat 32 r.val).toInt = (r.val : ℤ) := by
  have h := r.isLt
  rw [BitVec.toInt_eq_toNat_of_lt] <;> simp only [BitVec.toNat_ofNat] <;> omega

/-- A sum against the row of weights that is zero except at the position's own slot picks that slot's row. -/
theorem one_hot (p : BitVec 32) (w : EReal) (rows : Fin 256 → EReal) :
    ∑ r : Fin 256, (if (FloatOps.sitofp FTy.f32 p : Ideal .f32) = FloatOps.sitofp FTy.f32 (BitVec.ofNat 32 r.val) then w else 0) * rows r
      = contrib p w rows := by
  have hit : ∀ r : Fin 256, ((FloatOps.sitofp FTy.f32 p : Ideal .f32) = FloatOps.sitofp FTy.f32 (BitVec.ofNat 32 r.val))
      ↔ p.toInt = (r.val : ℤ) := fun r => by
    show (((p.toInt : ℝ) : EReal) = (((BitVec.ofNat 32 r.val).toInt : ℝ) : EReal)) ↔ _
    rw [toInt_slot, EReal.coe_eq_coe_iff, Int.cast_inj]
  simp only [hit]
  unfold contrib
  split
  · rename_i h
    rw [Finset.sum_eq_single (⟨p.toInt.toNat, by omega⟩ : Fin 256)]
    · rw [if_pos (by show p.toInt = ((p.toInt.toNat : ℕ) : ℤ); omega), mul_comm]
    · intro r _ hr
      rw [if_neg (fun e => hr (Fin.ext (by show r.val = p.toInt.toNat; omega))), zero_mul]
    · exact fun hn => absurd (Finset.mem_univ _) hn
  · rename_i h
    refine Finset.sum_eq_zero fun r _ => ?_
    have := r.isLt
    rw [if_neg (fun e => h ⟨by omega, by omega⟩), zero_mul]

/-- A sum over the 4096 rows is the sum over the 16 experts of the sums over their 256 slots. -/
theorem sum_rows (f : Fin 4096 → EReal) :
    ∑ x : Fin 4096, f x = ∑ e : Fin 16, ∑ r : Fin 256, f ⟨e.val * 256 + r.val, by omega⟩ := by
  rw [← Fintype.sum_prod_type']
  refine (Fintype.sum_equiv (finProdFinEquiv (m := 16) (n := 256)) _ _ fun x => ?_).symm
  exact congrArg f (Fin.ext (by show x.1.val * 256 + x.2.val = x.2.val + 256 * x.1.val; omega))

set_option maxHeartbeats 2000000 in
/-- One grid point's block: the stream plus the gate times the experts' summed parts. -/
theorem block (p : Vec Ideal S1x16x1024 .i32) (a : Vec Ideal S1x16x1024 .f32) (y : Vec Ideal S16x256x1024 .bf16) (xn : Vec Ideal S1x1024x1024 .f32) (g : Vec Ideal S1x1x1024 .f32) (q : Fin 1024) (d : Fin 1024) :
    out0_5 p a y xn g (ix3 0 q d) = xn (ix3 0 q d) + g (ix3 0 0 d) * ∑ e : Fin 16, contrib (p (ix3 0 e q)) (a (ix3 0 e q)) (fun r => y (ix3 e r d)) := by
  unfold_out out0_5
  canon_tiles x h
  all_goals idx_vars x
  all_goals unfold_payloads
  all_goals pointwise
  all_goals rw [sum_rows]
  all_goals refine congrArg₂ (· + ·) ?_ (congrArg₂ (· * ·) ?_ (Finset.sum_congr rfl fun e _ => (Finset.sum_congr rfl fun r _ => ?_).trans (one_hot _ _ _)))
  all_goals obtain rfl : x2 = d := Fin.ext h2.symm
  on_goal 3 =>
    obtain rfl : q = ⟨512 + x1.val, Nat.add_lt_add_left x1_lt 512⟩ := Fin.ext h1
    obtain ⟨e, he⟩ := e
    interval_cases e
    all_goals dsimp only
    all_goals first | simp (disch := omega) only [dif_pos, dif_neg] | fail "B"
    all_goals first
      | refine congrArg₂ (· * ·) (if_congr (iff_of_eq (congrArg (fun n => _ = (FloatOps.sitofp FTy.f32 (BitVec.ofNat 32 n) : Ideal .f32)) ?_)) rfl rfl)
          (congrArg₂ (fun a b => y (ix3 a b x2)) (Fin.ext ?_) (Fin.ext ?_))
      | fail "C"
    all_goals first | (dsimp only; omega) | omega | fail "D"
  on_goal 5 =>
    obtain rfl : q = ⟨x1.val, x1_lt.trans (by decide)⟩ := Fin.ext h1
    obtain ⟨e, he⟩ := e
    interval_cases e
    all_goals dsimp only
    all_goals first | simp (disch := omega) only [dif_pos, dif_neg] | fail "B"
    all_goals first
      | refine congrArg₂ (· * ·) (if_congr (iff_of_eq (congrArg (fun n => _ = (FloatOps.sitofp FTy.f32 (BitVec.ofNat 32 n) : Ideal .f32)) ?_)) rfl rfl)
          (congrArg₂ (fun a b => y (ix3 a b x2)) (Fin.ext ?_) (Fin.ext ?_))
      | fail "C"
    all_goals first | (dsimp only; omega) | omega | fail "D"
  all_goals first | (congr 1; done) | (congr 2; exact Fin.ext h1.symm) | fail "E"

end Cert.ScatterIdeal.Value

end
-- ==== Proof.ScatterValue.lean ====
module

public import proofs.«01_k».proof.Proof.Gen.ScatterIdeal.Value
public import proofs.«01_k».proof.Proof.Gen.ScatterRefIdeal.Run
public import proofs.«01_k».proof.Proof.ScatterBlock
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.ScatterIdeal.Value

open Cert.ScatterIdeal Cert.ScatterIdeal.Gen Idealize.ShloMosaic Idealize.ShloMosaic.TcCoe Idealize.SL.Sem
open Idealize.ShloMosaic.Pipeline (Dat)

variable (m : (ℓ : Loc nD τ sig) → Buf (Elt Ideal) ℓ)

/-- The stream with the chosen slots' rows, weighted and gated, added in: over the whole arrays. -/
def scatterOut (pos : S8x16x2048.Idx → BitVec 32) (aff : S8x16x2048.Idx → EReal) (y : S16x2048x1024.Idx → EReal)
    (xn : S8x2048x1024.Idx → EReal) (mods : S16x1x6144.Idx → EReal) : S8x2048x1024.Idx → EReal := fun i =>
  xn i + mods (ix3 (⟨(i 0).val, by have := (i 0).isLt; simp only [Fin.isValue] at this; exact Nat.lt_of_lt_of_le (i 0).isLt (by decide)⟩ : Fin 16) (0 : Fin 1) (⟨5120 + (i 2).val, by have : (i 2).val < 1024 := (i 2).isLt; omega⟩ : Fin 6144))
    * ∑ e : Fin 16, contrib (pos (ix3 (i 0) e (i 1))) (aff (ix3 (i 0) e (i 1)))
        (fun r => y (ix3 e (⟨(i 0).val * 256 + r.val, by have : (i 0).val < 8 := (i 0).isLt; omega⟩ : Fin 2048) (i 2)))

theorem idx : ∀ t : Fin grid0.N, win0_0.index t = ![t.val / 2, 0, t.val % 2] ∧ win0_1.index t = ![t.val / 2, 0, t.val % 2]
    ∧ win0_2.index t = ![0, t.val / 2, 0] ∧ win0_3.index t = ![t.val / 2, t.val % 2, 0] ∧ win0_4.index t = ![t.val / 2, 0, 5]
    ∧ win0_5.index t = ![t.val / 2, t.val % 2, 0] := by
  decide +kernel

/-- The block of slot numbers at a point is 1024 positions of one batch's slice. -/
theorem read0 (c : Dev nD) (p : Fin cfg0.N) (b : Fin 8) (hb : p.val / 2 = b.val) (e : Fin 16) (q : Fin 1024) (n : Fin 2048)
    (hn : n.val = p.val % 2 * 1024 + q.val) : iblk m c 0 p (ix3 0 e q) = m ((c.tc : Thread nD τ).loc main_arg0) (ix3 b e n) := by
  obtain ⟨i0, i1, i2, i3, i4, i5⟩ := idx p
  rw [← V_main_arg0 m c]
  blk_ext [iblk, i0]

/-- The block of weights at a point is 1024 positions of one batch's slice. -/
theorem read1 (c : Dev nD) (p : Fin cfg0.N) (b : Fin 8) (hb : p.val / 2 = b.val) (e : Fin 16) (q : Fin 1024) (n : Fin 2048)
    (hn : n.val = p.val % 2 * 1024 + q.val) : iblk m c 1 p (ix3 0 e q) = m ((c.tc : Thread nD τ).loc main_arg1) (ix3 b e n) := by
  obtain ⟨i0, i1, i2, i3, i4, i5⟩ := idx p
  rw [← V_main_arg1 m c]
  blk_ext [iblk, i1]

/-- The block of the experts' rows at a point is one batch's 256 rows of every expert. -/
theorem read2 (c : Dev nD) (p : Fin cfg0.N) (b : Fin 8) (hb : p.val / 2 = b.val) (e : Fin 16) (r : Fin 256) (d : Fin 1024) (n : Fin 2048)
    (hn : n.val = b.val * 256 + r.val) : iblk m c 2 p (ix3 e r d) = m ((c.tc : Thread nD τ).loc main_arg2) (ix3 e n d) := by
  obtain ⟨i0, i1, i2, i3, i4, i5⟩ := idx p
  blk_ext! [iblk, V, i2]

/-- The block of the stream at a point is 1024 rows of one batch's slice. -/
theorem read3 (c : Dev nD) (p : Fin cfg0.N) (b : Fin 8) (hb : p.val / 2 = b.val) (q d : Fin 1024) (n : Fin 2048)
    (hn : n.val = p.val % 2 * 1024 + q.val) : iblk m c 3 p (ix3 0 q d) = m ((c.tc : Thread nD τ).loc main_arg3) (ix3 b n d) := by
  obtain ⟨i0, i1, i2, i3, i4, i5⟩ := idx p
  rw [← V_main_arg3 m c]
  blk_ext [iblk, i3]

/-- The block of the gate at a point is the last sixth of one batch's row of modulations. -/
theorem read4 (c : Dev nD) (p : Fin cfg0.N) (b : Fin 16) (hb : p.val / 2 = b.val) (d : Fin 1024) (n : Fin 6144)
    (hn : n.val = 5120 + d.val) : iblk m c 4 p (ix3 0 0 d) = m ((c.tc : Thread nD τ).loc main_arg4) (ix3 b 0 n) := by
  obtain ⟨i0, i1, i2, i3, i4, i5⟩ := idx p
  rw [← V_main_arg4 m c]
  blk_ext [iblk, i4]

/-- The kernel's result, over the whole array. -/
theorem result_eq (c : Dev nD) : (dats m 0 c).arrAt 5 cfg0.N
      = scatterOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨i0, i1, i2, i3, i4, i5⟩ := idx t
  idx_vars y
  obtain rfl : y0 = 0 := Subsingleton.elim _ _
  have hN : t.val < 16 := t.isLt
  have he : (win0_5.blk t).view.emb (ix3 0 y1 y2) = ix3 (⟨t.val / 2, by omega⟩ : Fin 8) (⟨t.val % 2 * 1024 + y1.val, by omega⟩ : Fin 2048) y2 := by
    blk_ext [i5]
  rw [he]
  unfold scatterOut
  refine (block _ _ _ _ _ y1 y2).trans ?_
  rw [read3 m c t ⟨t.val / 2, by omega⟩ rfl y1 y2 ⟨t.val % 2 * 1024 + y1.val, by omega⟩ rfl,
    read4 m c t ⟨t.val / 2, by omega⟩ rfl y2 ⟨5120 + y2.val, by omega⟩ rfl]
  refine congrArg₂ (· + ·) rfl (congrArg₂ (· * ·) rfl (Finset.sum_congr rfl fun e _ => ?_))
  rw [read0 m c t ⟨t.val / 2, by omega⟩ rfl e y1 ⟨t.val % 2 * 1024 + y1.val, by omega⟩ rfl,
    read1 m c t ⟨t.val / 2, by omega⟩ rfl e y1 ⟨t.val % 2 * 1024 + y1.val, by omega⟩ rfl]
  have r2 := fun r : Fin 256 => read2 m c t ⟨t.val / 2, by omega⟩ rfl e r y2 ⟨t.val / 2 * 256 + r.val, by omega⟩ rfl
  simp only [r2]
  rfl

end Cert.ScatterIdeal.Value

namespace Cert.ScatterRefIdeal.Value

open Cert.ScatterRefIdeal Cert.ScatterRefIdeal.Gen Idealize.ShloMosaic Idealize.ShloMosaic.TcCoe Idealize.SL.Sem

variable (m : (ℓ : Loc nD τ sig) → Buf (Elt Ideal) ℓ)

/-- The rows taken along the slots' axis, read at an index: the row named by the index array, kept within the 256. -/
theorem take_rows {α : Type} (x : S8x16x256x1024.Idx → α) (idx : IVec S8x16x2048x1 32) (b : Fin 8) (e : Fin 16) (n : Fin 2048) (k : Fin 1024) :
    Host.gather gather_S8x16x256x1024_S8x16x2048x1_S8x16x2048x1024_3_2_01_01_2_3_1111024 x idx (ix4 b e n k)
      = x (ix4 b e ⟨min (idx (ix4 b e n 0)).toInt.toNat 255, by omega⟩ k) := by
  unfold Host.gather
  congr 1
  funext a
  refine Fin.ext ?_
  rcases (by decide : ∀ a : Fin 4, a = 0 ∨ a = 1 ∨ a = 2 ∨ a = 3) a with rfl | rfl | rfl | rfl
  all_goals show GatherDims.start _ _ _ _ + GatherDims.batchCoord _ _ _ + GatherDims.offCoord _ _ _ = _
  · rw [GatherDims.start_batching _ _ _ _ (by decide), GatherDims.offCoord_eq_zero _ _ _ (by rw [GatherDims.mem_sKept]; decide)]
    unfold GatherDims.batchCoord
    rw [dif_pos (by decide)]
    simp only [Nat.zero_add, Nat.add_zero]
    rfl
  · rw [GatherDims.start_batching _ _ _ _ (by decide), GatherDims.offCoord_eq_zero _ _ _ (by rw [GatherDims.mem_sKept]; decide)]
    unfold GatherDims.batchCoord
    rw [dif_pos (by decide)]
    simp only [Nat.zero_add, Nat.add_zero]
    rfl
  · rw [GatherDims.batchCoord_eq_zero _ _ _ (by decide), GatherDims.offCoord_eq_zero _ _ _ (by rw [GatherDims.mem_sKept]; decide)]
    unfold GatherDims.start
    rw [dif_pos (by decide)]
    simp only [Nat.add_zero]
    refine congrArg (fun j => min (idx j).toInt.toNat 255) (funext fun z => Fin.ext ?_)
    rcases (by decide : ∀ a : Fin 4, a = 0 ∨ a = 1 ∨ a = 2 ∨ a = 3) z with rfl | rfl | rfl | rfl <;> rfl
  · rw [GatherDims.batchCoord_eq_zero _ _ _ (by decide)]
    unfold GatherDims.start GatherDims.offCoord
    rw [dif_neg (by decide), dif_pos (by rw [GatherDims.mem_sKept]; decide)]
    simp only [Nat.zero_add, Nat.add_zero]
    rfl

/-- Of one expert at a position, the reference adds its slot's row times the weight where the slot number is chosen. -/
theorem ref_contrib (p : BitVec 32) (w fill z : EReal) (hz : z = 0) (rows : ℕ → EReal) :
    Scalar.select (IntOp.andi (IntOp.cmpi CmpIPredicate.sge p 0#32) (IntOp.cmpi CmpIPredicate.slt p 256#32))
        (Scalar.select (IntOp.andi
            (IntOp.cmpi .sge (Scalar.select (IntOp.cmpi .slt (Scalar.select (IntOp.andi (IntOp.cmpi CmpIPredicate.sge p 0#32) (IntOp.cmpi CmpIPredicate.slt p 256#32)) p 0#32) 0#32)
              (IntOp.addi (Scalar.select (IntOp.andi (IntOp.cmpi CmpIPredicate.sge p 0#32) (IntOp.cmpi CmpIPredicate.slt p 256#32)) p 0#32) 256#32)
              (Scalar.select (IntOp.andi (IntOp.cmpi CmpIPredicate.sge p 0#32) (IntOp.cmpi CmpIPredicate.slt p 256#32)) p 0#32)) 0#32)
            (IntOp.cmpi .sle (Scalar.select (IntOp.cmpi .slt (Scalar.select (IntOp.andi (IntOp.cmpi CmpIPredicate.sge p 0#32) (IntOp.cmpi CmpIPredicate.slt p 256#32)) p 0#32) 0#32)
              (IntOp.addi (Scalar.select (IntOp.andi (IntOp.cmpi CmpIPredicate.sge p 0#32) (IntOp.cmpi CmpIPredicate.slt p 256#32)) p 0#32) 256#32)
              (Scalar.select (IntOp.andi (IntOp.cmpi CmpIPredicate.sge p 0#32) (IntOp.cmpi CmpIPredicate.slt p 256#32)) p 0#32)) 255#32))
          (rows (min (Scalar.select (IntOp.cmpi .slt (Scalar.select (IntOp.andi (IntOp.cmpi CmpIPredicate.sge p 0#32) (IntOp.cmpi CmpIPredicate.slt p 256#32)) p 0#32) 0#32)
              (IntOp.addi (Scalar.select (IntOp.andi (IntOp.cmpi CmpIPredicate.sge p 0#32) (IntOp.cmpi CmpIPredicate.slt p 256#32)) p 0#32) 256#32)
              (Scalar.select (IntOp.andi (IntOp.cmpi CmpIPredicate.sge p 0#32) (IntOp.cmpi CmpIPredicate.slt p 256#32)) p 0#32)).toInt.toNat 255)) fill * w) z
      = Cert.ScatterIdeal.Value.contrib p w (fun r => rows r.val) := by
  subst hz
  have h0 : (0#32).toInt = 0 := by decide
  have h255 : (255#32).toInt = 255 := by decide
  have h256 : (256#32).toInt = 256 := by decide
  unfold Cert.ScatterIdeal.Value.contrib IntOp.cmpi Scalar.select IntOp.andi
  simp only [BitVec.slt, BitVec.sle, h0, h255, h256]
  by_cases h : 0 ≤ p.toInt ∧ p.toInt < 256
  · have hm : min p.toInt.toNat 255 = p.toInt.toNat := by omega
    have hl : p.toInt ≤ 255 := by omega
    have hn : ¬ p.toInt < 0 := by omega
    simp [h.1, h.2, hm, hl, hn]
  · rcases not_and_or.1 h with h | h <;> simp [h]

theorem ref_at (c : Dev nD) : res_out0 m c
      = Cert.ScatterIdeal.Value.scatterOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext i
  idx_vars i
  unfold res_out0 res_main_v19
  clean_types
  pointwise [take_rows]
  unfold Cert.ScatterIdeal.Value.scatterOut
  refine congrArg₂ (· + ·) rfl (congrArg₂ (· * ·) rfl (Finset.sum_congr rfl fun e _ => ?_))
  rw [Finset.univ_unique, Finset.fold_singleton]
  have one : ∀ v : BitVec 1, IntOp.andi v 1#1 = v := by decide
  rw [one]
  have hz : (constant S_ FTy.f32 0#32 : FVec Ideal S_ .f32) ix0 = 0 := by pointwise
  refine Eq.trans ?_ ((ref_contrib (m ((c.tc : Thread nD τ).loc main_arg0) (ix3 i0 e i1)) (m ((c.tc : Thread nD τ).loc main_arg1) (ix3 i0 e i1))
    (Ideal.ofBits .f32 2143289344#32) _ hz (fun n => m ((c.tc : Thread nD τ).loc main_arg2) (ix3 e (⟨i0.val * 256 + min n 255, by omega⟩ : Fin 2048) i2))).trans ?_)
  · have hc : (constantI S_ 32 0#32 : IVec S_ 32) ix0 = 0#32 := rfl
    simp only [id, hc, min_assoc, min_self]
  · refine congrArg (Cert.ScatterIdeal.Value.contrib _ _) (funext fun r => ?_)
    have : min r.val 255 = r.val := by omega
    simp only [this]
    rfl

end Cert.ScatterRefIdeal.Value

end
-- ==== Proof.ScatterClaim.lean ====
module

public import proofs.«01_k».proof.Defs
public import proofs.«01_k».proof.Proof.ScatterValue
public import proofs.«01_k».proof.Proof.Gen.Scatter.Frame

@[expose] public section

noncomputable section

namespace Cert.Proof

open Idealize.ShloMosaic Idealize.SL.Sem

/-- The combining reference leaves its arguments as they were, and it declares no semaphore. -/
theorem frame_scatterRef : Cert.quiescent_ScatterRefIdeal := fun m ρ _ =>
  (θ_run Cert.ScatterRefIdeal.defs _ _).mono (fun r h => ⟨fun c => (h c).2, sem_eq_zero_of_no_sems (by decide) r.2⟩)
    (Cert.ScatterRefIdeal.Value.run m ρ)

/-- The combining kernel and its reference end with the same result, from the same arguments. -/
theorem scatter_equal : Cert.algebraic_ScatterIdeal_ScatterRefIdeal := by
  intro m g m' g' _ hargs
  refine ⟨fun c => Cert.ScatterIdeal.Value.scatterOut (m ((c.tc : Thread Cert.ScatterIdeal.nD Cert.ScatterIdeal.τ).loc Cert.ScatterIdeal.main_arg0))
    (m ((c.tc : Thread Cert.ScatterIdeal.nD Cert.ScatterIdeal.τ).loc Cert.ScatterIdeal.main_arg1))
    (m ((c.tc : Thread Cert.ScatterIdeal.nD Cert.ScatterIdeal.τ).loc Cert.ScatterIdeal.main_arg2))
    (m ((c.tc : Thread Cert.ScatterIdeal.nD Cert.ScatterIdeal.τ).loc Cert.ScatterIdeal.main_arg3))
    (m ((c.tc : Thread Cert.ScatterIdeal.nD Cert.ScatterIdeal.τ).loc Cert.ScatterIdeal.main_arg4)), ?_, ?_⟩
  · exact (θ_run Cert.ScatterIdeal.defs _ _).mono (fun r h c => ⟨(h c).1.trans (Cert.ScatterIdeal.Value.result_eq m c), (h c).2⟩)
      (Cert.ScatterIdeal.Value.run_blocks m g)
  · refine (θ_run Cert.ScatterRefIdeal.defs _ _).mono (fun r h c => ⟨(h c).1.trans ?_, (h c).2⟩)
      (Cert.ScatterRefIdeal.Value.run (F := Ideal) m' g')
    obtain ⟨e0, e1, e2, e3, e4⟩ := hargs c
    refine (Cert.ScatterRefIdeal.Value.ref_at m' c).trans ?_
    rw [e0, e1, e2, e3, e4]

end Cert.Proof

end
-- ==== Proof.InProjRef.lean ====
module

public import proofs.«01_k».proof.Proof.Gen.InProjRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InProjRefIdeal.Value

open Cert.InProjRefIdeal Cert.InProjRefIdeal.Gen Idealize.ShloMosaic Idealize.ShloMosaic.TcCoe Idealize.SL.Sem

/-- One row normalized by its mean square, scaled by the norm's weight, then modulated by a scale and a shift. -/
def modRow (x sc sh g : Fin 1024 → EReal) (l : Fin 1024) : EReal :=
  x l * Ideal.rsqrt (Ideal.div (∑ k : Fin 1024, x k * x k) (Ideal.ofBits FTy.f32 1149239296#32) + Ideal.ofBits FTy.f32 897988541#32) * g l * (1 + sc l) + sh l

/-- One column of the projection at one position: the modulated row against a column of the weight. -/
def proj (x : S8x2048x1024.Idx → EReal) (mods : S16x1x6144.Idx → EReal) (g : S1024.Idx → EReal) (w : S1024x4352.Idx → EReal)
    (b : Fin 8) (q : Fin 2048) (n : Fin 4352) : EReal :=
  ∑ l : Fin 1024, modRow (fun l => x (ix3 b q l)) (fun l => mods (ix3 (⟨b.val, by omega⟩ : Fin 16) (0 : Fin 1) (⟨1024 + l.val, by omega⟩ : Fin 6144)))
    (fun l => mods (ix3 (⟨b.val, by omega⟩ : Fin 16) (0 : Fin 1) (⟨l.val, by omega⟩ : Fin 6144))) (fun l => g (ix1 l)) l * w (ix2 l n)

/-- The first 1536 columns of the projection. -/
def zhOut (x : S8x2048x1024.Idx → EReal) (mods : S16x1x6144.Idx → EReal) (g : S1024.Idx → EReal) (w : S1024x4352.Idx → EReal) :
    S8x2048x1536.Idx → EReal := fun i => proj x mods g w (i 0) (i 1) ⟨(i 2).val, by have : (i 2).val < 1536 := (i 2).isLt; omega⟩

/-- The values' 128 columns of the projection. -/
def vOut (x : S8x2048x1024.Idx → EReal) (mods : S16x1x6144.Idx → EReal) (g : S1024.Idx → EReal) (w : S1024x4352.Idx → EReal) :
    S8x2048x128.Idx → EReal := fun i => proj x mods g w (i 0) (i 1) ⟨2176 + (i 2).val, by have : (i 2).val < 128 := (i 2).isLt; omega⟩

/-- The gates: the logistic of the last 2048 columns of the projection. -/
def gOut (x : S8x2048x1024.Idx → EReal) (mods : S16x1x6144.Idx → EReal) (g : S1024.Idx → EReal) (w : S1024x4352.Idx → EReal) :
    S8x2048x2048.Idx → EReal := fun i => Ideal.logistic (proj x mods g w (i 0) (i 1) ⟨2304 + (i 2).val, by have : (i 2).val < 2048 := (i 2).isLt; omega⟩)

/-- The reference's projection of the normalized, modulated stream onto all the columns of the weight. -/
def refZ (x : FVec Ideal S8x2048x1024 .f32) (mods : FVec Ideal S16x1x6144 .f32) (g : FVec Ideal S1024 .f32)
    (w : FVec Ideal S1024x4352 .f32) : FVec Ideal S8x2048x4352 .f32 :=
  Host.dotGeneral dot_S8x2048x1024_S1024x4352_S8x2048x4352_2_0_01_1_n_n none (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] mods slices_S16x1x6144_S8x1x1024_0_0_1024)))) (broadcastInDim S8x2048x1024 ![0, 1, 2] bcast_S8x1x1024_S8x2048x1024_0_1_2 (extractStridedSlice S8x1x1024 ![0, 0, 0] mods slices_S16x1x6144_S8x1x1024_0_0_0))) w

/-- The reference's first result as its run leaves it. -/
def refZh (x : FVec Ideal S8x2048x1024 .f32) (mods : FVec Ideal S16x1x6144 .f32) (g : FVec Ideal S1024 .f32)
    (w : FVec Ideal S1024x4352 .f32) : FVec Ideal S8x2048x1536 .bf16 :=
  truncf .bf16 (extractStridedSlice S8x2048x1536 ![0, 0, 0] (refZ x mods g w) slices_S8x2048x4352_S8x2048x1536_0_0_0) bitsLt_bf16_f32

/-- The reference's values as its run leaves them. -/
def refV (x : FVec Ideal S8x2048x1024 .f32) (mods : FVec Ideal S16x1x6144 .f32) (g : FVec Ideal S1024 .f32)
    (w : FVec Ideal S1024x4352 .f32) : FVec Ideal S8x2048x128 .bf16 :=
  truncf .bf16 (extractStridedSlice S8x2048x128 ![0, 0, 2176] (refZ x mods g w) slices_S8x2048x4352_S8x2048x128_0_0_2176) bitsLt_bf16_f32

/-- The reference's gates as its run leaves them. -/
def refG (x : FVec Ideal S8x2048x1024 .f32) (mods : FVec Ideal S16x1x6144 .f32) (g : FVec Ideal S1024 .f32)
    (w : FVec Ideal S1024x4352 .f32) : FVec Ideal S8x2048x2048 .bf16 :=
  truncf .bf16 (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2304] (refZ x mods g w) slices_S8x2048x4352_S8x2048x2048_0_0_2304))))) bitsLt_bf16_f32

/-- The reference's first result, element by element, is the first columns of the projection. -/
theorem zh_eq (x : FVec Ideal S8x2048x1024 .f32) (mods : FVec Ideal S16x1x6144 .f32) (g : FVec Ideal S1024 .f32)
    (w : FVec Ideal S1024x4352 .f32) : refZh x mods g w = zhOut x mods g w := by
  funext i
  idx_vars i
  pointwise [refZh, refZ, zhOut, proj, modRow]
  first | done | rfl

/-- The reference's values, element by element, are their columns of the projection. -/
theorem v_eq (x : FVec Ideal S8x2048x1024 .f32) (mods : FVec Ideal S16x1x6144 .f32) (g : FVec Ideal S1024 .f32)
    (w : FVec Ideal S1024x4352 .f32) : refV x mods g w = vOut x mods g w := by
  funext i
  idx_vars i
  pointwise [refV, refZ, vOut, proj, modRow]
  first | done | rfl

/-- The reference's gates, element by element, are the logistic of their columns of the projection. -/
theorem g_eq (x : FVec Ideal S8x2048x1024 .f32) (mods : FVec Ideal S16x1x6144 .f32) (g : FVec Ideal S1024 .f32)
    (w : FVec Ideal S1024x4352 .f32) : refG x mods g w = gOut x mods g w := by
  funext i
  idx_vars i
  pointwise [refG, refZ, gOut, proj, modRow]
  first | done | rfl

end Cert.InProjRefIdeal.Value

end
-- ==== Proof.InProjBlock.lean ====
module

public import proofs.«01_k».proof.Proof.Gen.InProjIdeal.Frame
public import proofs.«01_k».proof.Proof.InProjRef
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 65536

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.InProjRefIdeal.Value (modRow)

variable (m : (ℓ : Loc nD τ sig) → Buf (Elt Ideal) ℓ)

set_option maxHeartbeats 1000000 in
/-- A point's block of the first result: the modulated rows against the first group of columns. -/
theorem block13 (c : Dev nD) (t : Fin cfg0.N) (q : Fin 1024) (n : Fin 1536) :
    (outsAt0 m c t).1 (ix3 0 q n) =  (∑ l : Fin 1024, modRow (fun l => (iblk m c 0 t : Vec Ideal S1x1024x1024 .f32) (ix3 0 q l)) (fun l => (iblk m c 1 t : Vec Ideal S1x1x1024 .f32) (ix3 0 0 l))
      (fun l => (iblk m c 2 t : Vec Ideal S1x1x1024 .f32) (ix3 0 0 l)) (fun l => (iblk m c 3 t : Vec Ideal S1x1024 .f32) (ix2 0 l)) l * (X0_4 m c t : Vec Ideal S1024x1536 .bf16) (ix2 l n)) := by
  unfold outsAt0
  dsimp only
  unfold out0_A_13
  frame_open
  frame_out
  generalize iblk m c 0 t = x0
  generalize iblk m c 1 t = x1
  generalize iblk m c 2 t = x2
  generalize iblk m c 3 t = x3
  generalize X0_4 m c t = x4
  canon_tiles x h
  all_goals idx_vars x
  all_goals unfold_payloads
  all_goals pointwise [modRow]
  all_goals simp only [← h1, show _ = n from Fin.ext h2.symm, Fin.eta]

set_option maxHeartbeats 1000000 in
/-- A point's block of the values: the modulated rows against the second half of the keys' and values' columns. -/
theorem block16 (c : Dev nD) (t : Fin cfg0.N) (q : Fin 1024) (n : Fin 128) :
    (outsAt0 m c t).2.2.2.1 (ix3 0 q n) =  (∑ l : Fin 1024, modRow (fun l => (iblk m c 0 t : Vec Ideal S1x1024x1024 .f32) (ix3 0 q l)) (fun l => (iblk m c 1 t : Vec Ideal S1x1x1024 .f32) (ix3 0 0 l))
      (fun l => (iblk m c 2 t : Vec Ideal S1x1x1024 .f32) (ix3 0 0 l)) (fun l => (iblk m c 3 t : Vec Ideal S1x1024 .f32) (ix2 0 l)) l * (iblk m c 6 t : Vec Ideal S1024x256 .bf16) (ix2 l (⟨128 + n.val, by omega⟩ : Fin 256))) := by
  unfold outsAt0
  dsimp only
  unfold out0_A_16
  frame_open
  frame_out
  generalize iblk m c 0 t = x0
  generalize iblk m c 1 t = x1
  generalize iblk m c 2 t = x2
  generalize iblk m c 3 t = x3
  generalize iblk m c 6 t = x4
  canon_tiles x h
  all_goals idx_vars x
  all_goals unfold_payloads
  all_goals pointwise [modRow]
  all_goals simp only [← h1, show _ = n from Fin.ext h2.symm, Fin.eta]

set_option maxHeartbeats 1000000 in
/-- A point's block of the gates: the logistic of the modulated rows against the gates' columns. -/
theorem block17 (c : Dev nD) (t : Fin cfg0.N) (q : Fin 1024) (n : Fin 2048) :
    (outsAt0 m c t).2.2.2.2 (ix3 0 q n) = Ideal.logistic (∑ l : Fin 1024, modRow (fun l => (iblk m c 0 t : Vec Ideal S1x1024x1024 .f32) (ix3 0 q l)) (fun l => (iblk m c 1 t : Vec Ideal S1x1x1024 .f32) (ix3 0 0 l))
      (fun l => (iblk m c 2 t : Vec Ideal S1x1x1024 .f32) (ix3 0 0 l)) (fun l => (iblk m c 3 t : Vec Ideal S1x1024 .f32) (ix2 0 l)) l * (X0_7 m c t : Vec Ideal S1024x2048 .bf16) (ix2 l n)) := by
  unfold outsAt0
  dsimp only
  unfold out0_A_17
  frame_open
  frame_out
  generalize iblk m c 0 t = x0
  generalize iblk m c 1 t = x1
  generalize iblk m c 2 t = x2
  generalize iblk m c 3 t = x3
  generalize X0_7 m c t = x4
  canon_tiles x h
  all_goals idx_vars x
  all_goals unfold_payloads
  all_goals pointwise [modRow]
  all_goals simp only [← h1, show _ = n from Fin.ext h2.symm, Fin.eta]

end Cert.InProjIdeal.Value

end
-- ==== Proof.InProjReads.lean ====
module

public import proofs.«01_k».proof.Proof.Gen.InProjIdeal.Frame.Runs
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- Which block of its array each window takes at a point. -/
theorem idx : ∀ t : Fin grid0.N, win0_0.index t = ![t.val / 2, t.val % 2, 0] ∧ win0_1.index t = ![t.val / 2, 0, 1]
    ∧ win0_2.index t = ![t.val / 2, 0, 0] ∧ win0_3.index t = ![0, 0] ∧ win0_4.index t = ![0, 0]
    ∧ win0_6.index t = ![0, 16] ∧ win0_7.index t = ![0, 1] ∧ win0_13.index t = ![t.val / 2, t.val % 2, 0]
    ∧ win0_16.index t = ![t.val / 2, t.val % 2, 0] ∧ win0_17.index t = ![t.val / 2, t.val % 2, 0] := by
  decide +kernel

/-- The block of the stream at a point is 1024 rows of one batch's slice. -/
theorem read0 (c : Dev nD) (p : Fin cfg0.N) (b : Fin 8) (hb : p.val / 2 = b.val) (q l : Fin 1024) (n : Fin 2048)
    (hn : n.val = p.val % 2 * 1024 + q.val) : iblk m c 0 p (ix3 0 q l) = m ((c.tc : Thread nD τ).loc main_arg0) (ix3 b n l) := by
  obtain ⟨i0, i1, i2, i3, i4, i6, i7, i13, i16, i17⟩ := idx p
  rw [← V_main_arg0 m c]
  blk_ext [iblk, i0]

/-- The block of scales at a point is the second sixth of one batch's row of modulations. -/
theorem read1 (c : Dev nD) (p : Fin cfg0.N) (b : Fin 16) (hb : p.val / 2 = b.val) (l : Fin 1024) (n : Fin 6144)
    (hn : n.val = 1024 + l.val) : iblk m c 1 p (ix3 0 0 l) = m ((c.tc : Thread nD τ).loc main_arg1) (ix3 b 0 n) := by
  obtain ⟨i0, i1, i2, i3, i4, i6, i7, i13, i16, i17⟩ := idx p
  rw [← V_main_arg1 m c]
  blk_ext [iblk, i1]

/-- The block of shifts at a point is the first sixth of one batch's row of modulations. -/
theorem read2 (c : Dev nD) (p : Fin cfg0.N) (b : Fin 16) (hb : p.val / 2 = b.val) (l : Fin 1024) (n : Fin 6144)
    (hn : n.val = l.val) : iblk m c 2 p (ix3 0 0 l) = m ((c.tc : Thread nD τ).loc main_arg1) (ix3 b 0 n) := by
  obtain ⟨i0, i1, i2, i3, i4, i6, i7, i13, i16, i17⟩ := idx p
  rw [← V_main_arg1 m c]
  blk_ext [iblk, i2]

/-- The buffers after the host operations before the last line of them. -/
def W (c : Dev nD) : Valuation τ sig (Elt Ideal) := StableHlo.after (hostOps0 ++ hostOps0_1) (fun b => m (c, b))

/-- The buffers at the region's entry are the last line's results over those. -/
theorem V_eq (c : Dev nD) (b : Ref sig .tc) : V m c b = StableHlo.after hostOps0_2 (W m c) b := by
  unfold V W
  rw [← StableHlo.after_append]
  simp only [List.flatten_cons, List.flatten_nil, List.append_nil, List.append_assoc]

/-- No earlier host operation writes the norm's weight. -/
theorem W_arg2 (c : Dev nD) : W m c main_arg2 = m ((c : Thread nD τ).loc main_arg2) :=
  StableHlo.after_of_forall_not_mem (b := Proc.devRef .tc main_arg2) _ _ (List.forall_iff_forall_mem.mp (by
    simp only [hostOps0, hostOps0_1, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No earlier host operation writes the projection's weight. -/
theorem W_arg3 (c : Dev nD) : W m c main_arg3 = m ((c : Thread nD τ).loc main_arg3) :=
  StableHlo.after_of_forall_not_mem (b := Proc.devRef .tc main_arg3) _ _ (List.forall_iff_forall_mem.mp (by
    simp only [hostOps0, hostOps0_1, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The norm's weight, in the buffer the kernel reads. -/
theorem v50 (c : Dev nD) : V m c main_v50 = broadcastInDim S1x1024 ![1] bcast_S1024_S1x1024_1
    (m ((c.tc : Thread nD τ).loc main_arg2) : FVec Ideal S1024 .f32) := by
  rw [V_eq, ← W_arg2 m c]
  generalize W m c = X
  entry_read
  rfl

/-- Three groups of columns laid side by side. -/
def packed (x y : (⟨S1024x2048, .bf16⟩ : BufTy).Contents (Elt Ideal)) (z : (⟨S1024x256, .bf16⟩ : BufTy).Contents (Elt Ideal)) :
    (⟨S1024x4352, .bf16⟩ : BufTy).Contents (Elt Ideal) :=
  concatenate S1024x4352 1 [⟨S1024x2048, x⟩, ⟨S1024x2048, y⟩, ⟨S1024x256, z⟩] concatenates_S1024x2048_S1024x2048_S1024x256_S1024x4352_d1

/-- The operations from the packing on leave the buffer 52 as it was. -/
theorem kept52 (U : Valuation τ sig (Elt Ideal)) : StableHlo.after (List.drop 13 (hostOps0_2 (F := Ideal))) U (Proc.devRef .tc main_v52) = U (Proc.devRef .tc main_v52) := by
  simp only [List.drop_succ_cons, List.drop_zero]
  after_results

/-- The operations from the packing on leave the buffer 53 as it was. -/
theorem kept53 (U : Valuation τ sig (Elt Ideal)) : StableHlo.after (List.drop 13 (hostOps0_2 (F := Ideal))) U (Proc.devRef .tc main_v53) = U (Proc.devRef .tc main_v53) := by
  simp only [List.drop_succ_cons, List.drop_zero]
  after_results

/-- The operations from the packing on leave the buffer 54 as it was. -/
theorem kept54 (U : Valuation τ sig (Elt Ideal)) : StableHlo.after (List.drop 13 (hostOps0_2 (F := Ideal))) U (Proc.devRef .tc main_v54) = U (Proc.devRef .tc main_v54) := by
  simp only [List.drop_succ_cons, List.drop_zero]
  after_results

/-- The packed weight is the three groups of columns. -/
theorem w55 (c : Dev nD) : V m c main_v55 = packed (V m c main_v52) (V m c main_v53) (V m c main_v54) := by
  rw [V_eq, V_eq, V_eq, V_eq]
  generalize W m c = X
  rw [← List.take_append_drop 13 (hostOps0_2 (F := Ideal)), StableHlo.after_append]
  generalize StableHlo.after (List.take 13 (hostOps0_2 (F := Ideal))) _ = U
  rw [kept52, kept53, kept54]
  simp only [List.drop_succ_cons, List.drop_zero]
  after_results
  rfl

/-- The columns of the weight from column 0 on. -/
theorem v52 (c : Dev nD) : V m c main_v52 = extractStridedSlice S1024x2048 ![0, 0]
    (truncf (F := Ideal) .bf16 (m ((c.tc : Thread nD τ).loc main_arg3) : FVec Ideal S1024x4352 .f32) bitsLt_bf16_f32) slices_S1024x4352_S1024x2048_0_0 := by
  rw [V_eq, ← W_arg3 m c]
  generalize W m c = X
  entry_read
  rfl

/-- The columns of the weight from column 2304 on. -/
theorem v53 (c : Dev nD) : V m c main_v53 = extractStridedSlice S1024x2048 ![0, 2304]
    (truncf (F := Ideal) .bf16 (m ((c.tc : Thread nD τ).loc main_arg3) : FVec Ideal S1024x4352 .f32) bitsLt_bf16_f32) slices_S1024x4352_S1024x2048_0_2304 := by
  rw [V_eq, ← W_arg3 m c]
  generalize W m c = X
  entry_read
  rfl

/-- The columns of the weight from column 2048 on. -/
theorem v54 (c : Dev nD) : V m c main_v54 = extractStridedSlice S1024x256 ![0, 2048]
    (truncf (F := Ideal) .bf16 (m ((c.tc : Thread nD τ).loc main_arg3) : FVec Ideal S1024x4352 .f32) bitsLt_bf16_f32) slices_S1024x4352_S1024x256_0_2048 := by
  rw [V_eq, ← W_arg3 m c]
  generalize W m c = X
  entry_read
  rfl

/-- The norm's weight at a point is the whole of it. -/
theorem read3 (c : Dev nD) (p : Fin cfg0.N) (l : Fin 1024) : iblk m c 3 p (ix2 0 l) = m ((c.tc : Thread nD τ).loc main_arg2) (ix1 l) := by
  obtain ⟨i0, i1, i2, i3, i4, i6, i7, i13, i16, i17⟩ := idx p
  have he : iblk m c 3 p (ix2 0 l) = V m c main_v50 (ix2 0 l) := by blk_ext [iblk, i3]
  rw [he, v50]
  pointwise

/-- The first 1536 columns of the packed weight are those of the weight. -/
theorem packedH (c : Dev nD) (l : Fin 1024) (k : Fin 1536) (n : Fin 4352) (hn : n.val = k.val) :
    V m c main_v55 (ix2 l n) = m ((c.tc : Thread nD τ).loc main_arg3) (ix2 l n) := by
  rw [w55, v52, v53, v54]
  pointwise [packed]
  simp (disch := omega) only [dif_pos, dif_neg]

/-- The 2048 columns of the packed weight from column 2048 on are the last 2048 of the weight. -/
theorem packedG (c : Dev nD) (l : Fin 1024) (k : Fin 2048) (n n' : Fin 4352) (hn : n.val = 2048 + k.val) (hn' : n'.val = 2304 + k.val) :
    V m c main_v55 (ix2 l n) = m ((c.tc : Thread nD τ).loc main_arg3) (ix2 l n') := by
  rw [w55, v52, v53, v54]
  pointwise [packed]
  simp (disch := omega) only [dif_pos, dif_neg]
  refine congrArg (fun z => m ((c.tc : Thread nD τ).loc main_arg3) (ix2 l z)) (Fin.ext ?_)
  dsimp only
  omega

/-- The last 256 columns of the packed weight are those from column 2048 on of the weight. -/
theorem packedK (c : Dev nD) (l : Fin 1024) (k : Fin 256) (n n' : Fin 4352) (hn : n.val = 4096 + k.val) (hn' : n'.val = 2048 + k.val) :
    V m c main_v55 (ix2 l n) = m ((c.tc : Thread nD τ).loc main_arg3) (ix2 l n') := by
  rw [w55, v52, v53, v54]
  pointwise [packed]
  simp (disch := omega) only [dif_pos, dif_neg]
  refine congrArg (fun z => m ((c.tc : Thread nD τ).loc main_arg3) (ix2 l z)) (Fin.ext ?_)
  dsimp only
  omega

/-- The first group of columns at a point. -/
theorem read4 (c : Dev nD) (p : Fin cfg0.N) (l : Fin 1024) (k : Fin 1536) (n : Fin 4352) (hn : n.val = k.val) :
    X0_4 m c p (ix2 l k) = m ((c.tc : Thread nD τ).loc main_arg3) (ix2 l n) := by
  obtain ⟨i0, i1, i2, i3, i4, i6, i7, i13, i16, i17⟩ := idx p
  rw [← packedH m c l k n hn]
  unfold X0_4 Pipeline.Window.fill
  rw [dif_pos (moved0_4 p _)]
  blk_ext [iblk, i4]

/-- The keys' and values' columns at a point. -/
theorem read6 (c : Dev nD) (p : Fin cfg0.N) (l : Fin 1024) (k : Fin 256) (n : Fin 4352) (hn : n.val = 2048 + k.val) :
    iblk m c 6 p (ix2 l k) = m ((c.tc : Thread nD τ).loc main_arg3) (ix2 l n) := by
  obtain ⟨i0, i1, i2, i3, i4, i6, i7, i13, i16, i17⟩ := idx p
  rw [← packedK m c l k ⟨4096 + k.val, by omega⟩ n rfl hn]
  blk_ext [iblk, i6]

/-- The gates' columns at a point. -/
theorem read7 (c : Dev nD) (p : Fin cfg0.N) (l : Fin 1024) (k : Fin 2048) (n : Fin 4352) (hn : n.val = 2304 + k.val) :
    X0_7 m c p (ix2 l k) = m ((c.tc : Thread nD τ).loc main_arg3) (ix2 l n) := by
  obtain ⟨i0, i1, i2, i3, i4, i6, i7, i13, i16, i17⟩ := idx p
  rw [← packedG m c l k ⟨2048 + k.val, by omega⟩ n rfl hn]
  unfold X0_7 Pipeline.Window.fill
  rw [dif_pos (moved0_7 p _)]
  blk_ext [iblk, i7]

end Cert.InProjIdeal.Value

end
-- ==== Proof.InProjValue.lean ====
module

public import proofs.«01_k».proof.Proof.Gen.InProjIdeal.Value
public import proofs.«01_k».proof.Proof.InProjBlock
public import proofs.«01_k».proof.Proof.InProjReads
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.InProjRefIdeal.Value (modRow proj zhOut vOut gOut)

variable (m : (ℓ : Loc nD τ sig) → Buf (Elt Ideal) ℓ)

/-- The kernel's first result, over the whole array. -/
theorem result13_eq (c : Dev nD) : (dats m 0 c).arrAt 13 cfg0.N
      = zhOut (m ((c.tc : Thread nD τ).loc main_arg0)) (m ((c.tc : Thread nD τ).loc main_arg1)) (m ((c.tc : Thread nD τ).loc main_arg2))
          (m ((c.tc : Thread nD τ).loc main_arg3)) := by
  refine (dats m 0 c).arrAt_eq_of_covers 13 _ (by decide +kernel) fun t hf y => ?_
  blk_simp
  rw [after0_13]
  obtain ⟨i0, i1, i2, i3, i4, i6, i7, i13, i16, i17⟩ := idx t
  idx_vars y
  obtain rfl : y0 = 0 := Subsingleton.elim _ _
  have hN : t.val < 16 := t.isLt
  have he : (win0_13.blk t).view.emb (ix3 0 y1 y2) = ix3 (⟨t.val / 2, by omega⟩ : Fin 8) (⟨t.val % 2 * 1024 + y1.val, by omega⟩ : Fin 2048) y2 := by
    blk_ext [i13]
  rw [he]
  unfold zhOut proj
  refine (block13 m c t y1 y2).trans ?_
  have r0 := fun l => read0 m c t ⟨t.val / 2, by omega⟩ rfl y1 l ⟨t.val % 2 * 1024 + y1.val, by omega⟩ rfl
  have r1 := fun l : Fin 1024 => read1 m c t ⟨t.val / 2, by omega⟩ rfl l ⟨1024 + l.val, by omega⟩ rfl
  have r2 := fun l : Fin 1024 => read2 m c t ⟨t.val / 2, by omega⟩ rfl l ⟨l.val, by omega⟩ rfl
  have r3 := fun l => read3 m c t l
  have r4 := fun l => read4 m c t l y2 ⟨y2.val, by omega⟩ rfl
  simp only [r0, r1, r2, r3, r4]
  rfl

/-- The kernel's values, over the whole array. -/
theorem result16_eq (c : Dev nD) : (dats m 0 c).arrAt 16 cfg0.N
      = vOut (m ((c.tc : Thread nD τ).loc main_arg0)) (m ((c.tc : Thread nD τ).loc main_arg1)) (m ((c.tc : Thread nD τ).loc main_arg2))
          (m ((c.tc : Thread nD τ).loc main_arg3)) := by
  refine (dats m 0 c).arrAt_eq_of_covers 16 _ (by decide +kernel) fun t hf y => ?_
  blk_simp
  rw [after0_16]
  obtain ⟨i0, i1, i2, i3, i4, i6, i7, i13, i16, i17⟩ := idx t
  idx_vars y
  obtain rfl : y0 = 0 := Subsingleton.elim _ _
  have hN : t.val < 16 := t.isLt
  have he : (win0_16.blk t).view.emb (ix3 0 y1 y2) = ix3 (⟨t.val / 2, by omega⟩ : Fin 8) (⟨t.val % 2 * 1024 + y1.val, by omega⟩ : Fin 2048) y2 := by
    blk_ext [i16]
  rw [he]
  unfold vOut proj
  refine (block16 m c t y1 y2).trans ?_
  have r0 := fun l => read0 m c t ⟨t.val / 2, by omega⟩ rfl y1 l ⟨t.val % 2 * 1024 + y1.val, by omega⟩ rfl
  have r1 := fun l : Fin 1024 => read1 m c t ⟨t.val / 2, by omega⟩ rfl l ⟨1024 + l.val, by omega⟩ rfl
  have r2 := fun l : Fin 1024 => read2 m c t ⟨t.val / 2, by omega⟩ rfl l ⟨l.val, by omega⟩ rfl
  have r3 := fun l => read3 m c t l
  have r4 := fun l => read6 m c t l ⟨128 + y2.val, by omega⟩ ⟨2176 + y2.val, by omega⟩ (by dsimp only; omega)
  simp only [r0, r1, r2, r3, r4]
  rfl

/-- The kernel's gates, over the whole array. -/
theorem result17_eq (c : Dev nD) : (dats m 0 c).arrAt 17 cfg0.N
      = gOut (m ((c.tc : Thread nD τ).loc main_arg0)) (m ((c.tc : Thread nD τ).loc main_arg1)) (m ((c.tc : Thread nD τ).loc main_arg2))
          (m ((c.tc : Thread nD τ).loc main_arg3)) := by
  refine (dats m 0 c).arrAt_eq_of_covers 17 _ (by decide +kernel) fun t hf y => ?_
  blk_simp
  rw [after0_17]
  obtain ⟨i0, i1, i2, i3, i4, i6, i7, i13, i16, i17⟩ := idx t
  idx_vars y
  obtain rfl : y0 = 0 := Subsingleton.elim _ _
  have hN : t.val < 16 := t.isLt
  have he : (win0_17.blk t).view.emb (ix3 0 y1 y2) = ix3 (⟨t.val / 2, by omega⟩ : Fin 8) (⟨t.val % 2 * 1024 + y1.val, by omega⟩ : Fin 2048) y2 := by
    blk_ext [i17]
  rw [he]
  unfold gOut proj
  refine (block17 m c t y1 y2).trans ?_
  have r0 := fun l => read0 m c t ⟨t.val / 2, by omega⟩ rfl y1 l ⟨t.val % 2 * 1024 + y1.val, by omega⟩ rfl
  have r1 := fun l : Fin 1024 => read1 m c t ⟨t.val / 2, by omega⟩ rfl l ⟨1024 + l.val, by omega⟩ rfl
  have r2 := fun l : Fin 1024 => read2 m c t ⟨t.val / 2, by omega⟩ rfl l ⟨l.val, by omega⟩ rfl
  have r3 := fun l => read3 m c t l
  have r4 := fun l => read7 m c t l y2 ⟨2304 + y2.val, by omega⟩ rfl
  simp only [r0, r1, r2, r3, r4]
  rfl

end Cert.InProjIdeal.Value

end
-- ==== Proof.InProjClaim.lean ====
module

public import proofs.«01_k».proof.Defs
public import proofs.«01_k».proof.Proof.InProjValue
public import proofs.«01_k».proof.Proof.Gen.InProj.Frame

@[expose] public section

noncomputable section

namespace Cert.Proof

open Idealize.ShloMosaic Idealize.SL.Sem

/-- The projection's reference leaves its arguments as they were, and it declares no semaphore. -/
theorem frame_inProjRef : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run m ρ)

/-- The projection's kernel and its reference end with the same first result, values and gates, from the same arguments. -/
theorem inProj_equal : Cert.algebraic_InProjIdeal_InProjRefIdeal := by
  intro m g m' g' _ hargs
  refine ⟨fun c => Cert.InProjRefIdeal.Value.zhOut (m ((c.tc : Thread Cert.InProjIdeal.nD Cert.InProjIdeal.τ).loc Cert.InProjIdeal.main_arg0)) (m ((c.tc : Thread Cert.InProjIdeal.nD Cert.InProjIdeal.τ).loc Cert.InProjIdeal.main_arg1))
    (m ((c.tc : Thread Cert.InProjIdeal.nD Cert.InProjIdeal.τ).loc Cert.InProjIdeal.main_arg2)) (m ((c.tc : Thread Cert.InProjIdeal.nD Cert.InProjIdeal.τ).loc Cert.InProjIdeal.main_arg3)),
   fun c => Cert.InProjRefIdeal.Value.vOut (m ((c.tc : Thread Cert.InProjIdeal.nD Cert.InProjIdeal.τ).loc Cert.InProjIdeal.main_arg0)) (m ((c.tc : Thread Cert.InProjIdeal.nD Cert.InProjIdeal.τ).loc Cert.InProjIdeal.main_arg1))
    (m ((c.tc : Thread Cert.InProjIdeal.nD Cert.InProjIdeal.τ).loc Cert.InProjIdeal.main_arg2)) (m ((c.tc : Thread Cert.InProjIdeal.nD Cert.InProjIdeal.τ).loc Cert.InProjIdeal.main_arg3)),
   fun c => Cert.InProjRefIdeal.Value.gOut (m ((c.tc : Thread Cert.InProjIdeal.nD Cert.InProjIdeal.τ).loc Cert.InProjIdeal.main_arg0)) (m ((c.tc : Thread Cert.InProjIdeal.nD Cert.InProjIdeal.τ).loc Cert.InProjIdeal.main_arg1))
    (m ((c.tc : Thread Cert.InProjIdeal.nD Cert.InProjIdeal.τ).loc Cert.InProjIdeal.main_arg2)) (m ((c.tc : Thread Cert.InProjIdeal.nD Cert.InProjIdeal.τ).loc Cert.InProjIdeal.main_arg3)), ?_, ?_⟩
  · exact (θ_run Cert.InProjIdeal.defs _ _).mono (fun r h c => ⟨(h c).1.trans (Cert.InProjIdeal.Value.result13_eq m c),
        (h c).2.2.2.1.trans (Cert.InProjIdeal.Value.result16_eq m c), (h c).2.2.2.2.1.trans (Cert.InProjIdeal.Value.result17_eq m c), (h c).2.2.2.2.2⟩)
      (Cert.InProjIdeal.Value.run_blocks m g)
  · refine (θ_run Cert.InProjRefIdeal.defs _ _).mono (fun r h c => ⟨(h c).1.trans ?_, (h c).2.1.trans ?_, (h c).2.2.1.trans ?_, (h c).2.2.2⟩)
      (Cert.InProjRefIdeal.Value.run (F := Ideal) m' g')
    · obtain ⟨e0, e1, e2, e3, e4, e5⟩ := hargs c
      refine (Cert.InProjRefIdeal.Value.zh_eq _ _ _ _).trans ?_
      rw [e0, e1, e2, e3]
    · obtain ⟨e0, e1, e2, e3, e4, e5⟩ := hargs c
      refine (Cert.InProjRefIdeal.Value.v_eq _ _ _ _).trans ?_
      rw [e0, e1, e2, e3]
    · obtain ⟨e0, e1, e2, e3, e4, e5⟩ := hargs c
      refine (Cert.InProjRefIdeal.Value.g_eq _ _ _ _).trans ?_
      rw [e0, e1, e2, e3]

end Cert.Proof

end
-- ==== Proof.lean ====
/- The proof of everything claimed in Defs: the frames, from the generated modules, and the equalities, from the modules
   beside this one. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.AttnIdeal.Value
public import proofs.«01_k».proof.Proof.Gen.ExpertsIdeal.Value
public import proofs.«01_k».proof.Proof.Gen.ScatterIdeal.Value
public import proofs.«01_k».proof.Proof.Gen.AttnRefIdeal.Run
public import proofs.«01_k».proof.Proof.Gen.ExpertsRefIdeal.Run
public import proofs.«01_k».proof.Proof.Gen.ScatterRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.AttnClaim
public import proofs.«01_k».proof.Proof.ExpertsClaim
public import proofs.«01_k».proof.Proof.ScatterClaim
public import proofs.«01_k».proof.Proof.InProjClaim
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Attn

/-- The attention's reference leaves its arguments as they were, and it declares no semaphore. -/
theorem frame_attnRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- All the claims together. -/
theorem claim : Cert.Claim := ⟨Cert.Attn.Gen.facts, Cert.AttnIdeal.Gen.facts, Cert.AttnRefIdeal.Gen.facts, Cert.Experts.Gen.facts, Cert.ExpertsIdeal.Gen.facts, Cert.ExpertsRefIdeal.Gen.facts, Cert.Scatter.Gen.facts, Cert.ScatterIdeal.Gen.facts, Cert.ScatterRefIdeal.Gen.facts, Cert.InProj.Gen.facts, Cert.InProjIdeal.Gen.facts, Cert.InProjRefIdeal.Gen.facts, Cert.Pre_finite_scores.Gen.facts,
  fun m ρ _ => Cert.Attn.Gen.frame m ρ, fun m ρ _ => Cert.AttnIdeal.Gen.frame m ρ, fun m ρ _ => Cert.AttnIdeal.Gen.frame m ρ,
  frame_attnRef, fun m ρ _ => frame_attnRef m ρ trivial,
  fun m ρ _ => Cert.Experts.Gen.frame m ρ, fun m ρ _ => Cert.ExpertsIdeal.Gen.frame m ρ, frame_expertsRef,
  fun m ρ _ => Cert.Scatter.Gen.frame m ρ, fun m ρ _ => Cert.ScatterIdeal.Gen.frame m ρ, frame_scatterRef,
  fun m ρ _ => Cert.InProj.Gen.frame m ρ, fun m ρ _ => Cert.InProjIdeal.Gen.frame m ρ, frame_inProjRef,
  trivial, attn_equal, trivial, experts_equal, trivial, scatter_equal, trivial, inProj_equal⟩

end Cert.Proof

end
